-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_clear_neighbours [hPre_clear_neighbours : Cert.Pre_clear_neighbours.Facts] (m : (ℓ : Loc Cert.KernelIdeal.nD Cert.KernelIdeal.τ Cert.KernelIdeal.sig) → Buf (Elt Ideal) ℓ) : Prop :=
  ∀ c : Dev Cert.KernelIdeal.nD,
    (Cert.Pre_clear_neighbours.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).1 = (fun _ => 1#1)
    ∧ (Cert.Pre_clear_neighbours.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.1 = (fun _ => 1#1)
    ∧ (Cert.Pre_clear_neighbours.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.1 = (fun _ => 1#1)
    ∧ (Cert.Pre_clear_neighbours.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.1 = (fun _ => 1#1)
    ∧ (Cert.Pre_clear_neighbours.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.1 = (fun _ => 1#1)
    ∧ (Cert.Pre_clear_neighbours.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.1 = (fun _ => 1#1)
    ∧ (Cert.Pre_clear_neighbours.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.1 = (fun _ => 1#1)
    ∧ (Cert.Pre_clear_neighbours.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.1 = (fun _ => 1#1)
    ∧ (Cert.Pre_clear_neighbours.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.1 = (fun _ => 1#1)
    ∧ (Cert.Pre_clear_neighbours.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.1 = (fun _ => 1#1)
    ∧ (Cert.Pre_clear_neighbours.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.1 = (fun _ => 1#1)
    ∧ (Cert.Pre_clear_neighbours.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.2.1 = (fun _ => 1#1)
    ∧ (Cert.Pre_clear_neighbours.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_clear_neighbours [hPre_clear_neighbours : Cert.Pre_clear_neighbours.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_clear_neighbours.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).1 = (fun _ => 1#1)
    ∧ (Cert.Pre_clear_neighbours.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.1 = (fun _ => 1#1)
    ∧ (Cert.Pre_clear_neighbours.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.1 = (fun _ => 1#1)
    ∧ (Cert.Pre_clear_neighbours.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.1 = (fun _ => 1#1)
    ∧ (Cert.Pre_clear_neighbours.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.1 = (fun _ => 1#1)
    ∧ (Cert.Pre_clear_neighbours.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.1 = (fun _ => 1#1)
    ∧ (Cert.Pre_clear_neighbours.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.1 = (fun _ => 1#1)
    ∧ (Cert.Pre_clear_neighbours.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.1 = (fun _ => 1#1)
    ∧ (Cert.Pre_clear_neighbours.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.1 = (fun _ => 1#1)
    ∧ (Cert.Pre_clear_neighbours.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.1 = (fun _ => 1#1)
    ∧ (Cert.Pre_clear_neighbours.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.1 = (fun _ => 1#1)
    ∧ (Cert.Pre_clear_neighbours.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.2.1 = (fun _ => 1#1)
    ∧ (Cert.Pre_clear_neighbours.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_clear_neighbours [hKernelIdeal : Cert.KernelIdeal.Facts] [hPre_clear_neighbours : Cert.Pre_clear_neighbours.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_clear_neighbours m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_clear_neighbours [hReferenceIdeal : Cert.ReferenceIdeal.Facts] [hPre_clear_neighbours : Cert.Pre_clear_neighbours.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_clear_neighbours m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  IdealRules.named_const.Statement Cert.KernelIdeal.κ "inv36" .f32 0x3CE38E39#32 ((1 / 36 : ℝ) : EReal)

def algebraic_KernelIdeal_ReferenceIdeal_pre_clear_neighbours [hKernelIdeal : Cert.KernelIdeal.Facts] [hReferenceIdeal : Cert.ReferenceIdeal.Facts] [hPre_clear_neighbours : Cert.Pre_clear_neighbours.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_clear_neighbours m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v213) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_clear_neighbours : Cert.Pre_clear_neighbours.Facts),
    quiescent_Kernel (hKernel := hKernel)
    ∧ quiescent_KernelIdeal (hKernelIdeal := hKernelIdeal)
    ∧ quiescent_KernelIdeal_pre_clear_neighbours (hKernelIdeal := hKernelIdeal) (hPre_clear_neighbours := hPre_clear_neighbours)
    ∧ quiescent_ReferenceIdeal (hReferenceIdeal := hReferenceIdeal)
    ∧ quiescent_ReferenceIdeal_pre_clear_neighbours (hReferenceIdeal := hReferenceIdeal) (hPre_clear_neighbours := hPre_clear_neighbours)
    ∧ preserves_Kernel_KernelIdeal
    ∧ algebraic_KernelIdeal_ReferenceIdeal_pre_clear_neighbours (hKernelIdeal := hKernelIdeal) (hReferenceIdeal := hReferenceIdeal) (hPre_clear_neighbours := hPre_clear_neighbours)
-- ==== Pre_clear_neighbours.lean ====
abbrev S8x96x32x32 : Shape := ⟨4, ![8, 96, 32, 32]⟩
abbrev S384x96 : Shape := ⟨2, ![384, 96]⟩
abbrev S384 : Shape := ⟨1, ![384]⟩
abbrev S96x384 : Shape := ⟨2, ![96, 384]⟩
abbrev S96 : Shape := ⟨1, ![96]⟩
abbrev S96x96 : Shape := ⟨2, ![96, 96]⟩
abbrev S8x96x1024 : Shape := ⟨3, ![8, 96, 1024]⟩
abbrev S_ : Shape := ⟨0, ![]⟩
abbrev S8x1024 : Shape := ⟨2, ![8, 1024]⟩
abbrev S8x1x1024 : Shape := ⟨3, ![8, 1, 1024]⟩
abbrev S8x1024x1024 : Shape := ⟨3, ![8, 1024, 1024]⟩
abbrev S8x1024x6 : Shape := ⟨3, ![8, 1024, 6]⟩
abbrev S8x1024x5 : Shape := ⟨3, ![8, 1024, 5]⟩

class Facts : Prop where
  shapeCasts_S8x96x32x32_S8x96x1024 : S8x96x32x32.ShapeCasts S8x96x1024
  reducesTo_S8x96x1024_S8x1024_d1 : S8x96x1024.ReducesTo [1] S8x1024
  h_S_ : 0 < S_.numel
  bcast_S8x1024_S8x1x1024_0_2 : S8x1024.BroadcastsInDim S8x1x1024 (![0, 2] : Fin 2 → Fin S8x1x1024.rank)
  bcast_S_S8x1x1024 : S_.BroadcastsInDim S8x1x1024 (![] : Fin 0 → Fin S8x1x1024.rank)
  bcast_S8x1x1024_S8x96x1024_0_1_2 : S8x1x1024.BroadcastsInDim S8x96x1024 (![0, 1, 2] : Fin 3 → Fin S8x96x1024.rank)
  sliceFits_S8x1024x1024_S8x1024x6 : S8x1024x1024.Slices (fun _ => 0) S8x1024x6
  slices_S8x1024x6_S8x1024x5_0_0_1 : S8x1024x6.Slices ![0, 0, 1] S8x1024x5
  slices_S8x1024x6_S8x1024x5_0_0_0 : S8x1024x6.Slices ![0, 0, 0] S8x1024x5
  bcast_S_S8x96x32x32 : S_.BroadcastsInDim S8x96x32x32 (![] : Fin 0 → Fin S8x96x32x32.rank)
  bcast_S_S384x96 : S_.BroadcastsInDim S384x96 (![] : Fin 0 → Fin S384x96.rank)
  bcast_S_S384 : S_.BroadcastsInDim S384 (![] : Fin 0 → Fin S384.rank)
  bcast_S_S96x384 : S_.BroadcastsInDim S96x384 (![] : Fin 0 → Fin S96x384.rank)
  bcast_S_S96 : S_.BroadcastsInDim S96 (![] : Fin 0 → Fin S96.rank)
  bcast_S_S96x96 : S_.BroadcastsInDim S96x96 (![] : Fin 0 → Fin S96x96.rank)
  dot_S8x96x1024_S8x96x1024_S8x1024x1024_1_1_2_2_0_0_wf : DotDims.WF S8x96x1024 S8x96x1024 S8x1024x1024 [1] [1] [2] [2] [0] [0]

variable [Facts]

def dot_S8x96x1024_S8x96x1024_S8x1024x1024_1_1_2_2_0_0 : DotDims S8x96x1024 S8x96x1024 S8x1024x1024 where
  lhsContracting := [1]
  rhsContracting := [1]
  lhsNonContracting := [2]
  rhsNonContracting := [2]
  lhsBatch := [0]
  rhsBatch := [0]
  wf := dot_S8x96x1024_S8x96x1024_S8x1024x1024_1_1_2_2_0_0_wf
def fn_norm {F : FTy → Type} [FloatOps F] (arg0 : FVec F S8x96x1024 .f32) : FVec F S8x1x1024 .f32 :=
  let v0 : FVec F S8x96x1024 .f32 := mulf arg0 arg0
  let cst : FVec F S_ .f32 := constant S_ .f32 0x00000000#32
  let v1 : FVec F S8x1024 .f32 := (fun x v => Host.reduceAdd x v reducesTo_S8x96x1024_S8x1024_d1 h_S_) v0 cst
  let v2 : FVec F S8x1x1024 .f32 := broadcastInDim S8x1x1024 ![0, 2] bcast_S8x1024_S8x1x1024_0_2 v1
  let v3 : FVec F S8x1x1024 .f32 := Host.sqrt v2
  v3

def fn_part2 {F : FTy → Type} [FloatOps F] (main_arg13 : FVec F S96 .f32) (main_arg14 : FVec F S96 .f32) (main_arg15 : FVec F S96 .f32) (main_v9 : IVec S8x1024x5 1) (main_v12 : IVec S8x96x32x32 1) (main_v15 : IVec S384x96 1) (main_v18 : IVec S384 1) (main_v21 : IVec S96x384 1) (main_v24 : IVec S96 1) (main_v27 : IVec S96x96 1) (main_v30 : IVec S96 1) (main_v33 : IVec S96x96 1) (main_v34 : FVec F S96 .f32) (main_v35 : FVec F S96 .f32) : IVec S8x1024x5 1 × IVec S8x96x32x32 1 × IVec S384x96 1 × IVec S384 1 × IVec S96x384 1 × IVec S96 1 × IVec S96x96 1 × IVec S96 1 × IVec S96x96 1 × IVec S96 1 × IVec S96 1 × IVec S96 1 × IVec S96 1 :=
  let main_v36 : IVec S96 1 := cmpf .olt main_v34 main_v35
  let main_v37 : FVec F S96 .f32 := Host.absf main_arg13
  let main_cst_9 : FVec F S_ .f32 := constant S_ .f32 0x7F800000#32
  let main_v38 : FVec F S96 .f32 := broadcastInDim S96 ![] bcast_S_S96 main_cst_9
  let main_v39 : IVec S96 1 := cmpf .olt main_v37 main_v38
  let main_v40 : FVec F S96 .f32 := Host.absf main_arg14
  let main_cst_10 : FVec F S_ .f32 := constant S_ .f32 0x7F800000#32
  let main_v41 : FVec F S96 .f32 := broadcastInDim S96 ![] bcast_S_S96 main_cst_10
  let main_v42 : IVec S96 1 := cmpf .olt main_v40 main_v41
  let main_v43 : FVec F S96 .f32 := Host.absf main_arg15
  let main_cst_11 : FVec F S_ .f32 := constant S_ .f32 0x7F800000#32
  let main_v44 : FVec F S96 .f32 := broadcastInDim S96 ![] bcast_S_S96 main_cst_11
  let main_v45 : IVec S96 1 := cmpf .olt main_v43 main_v44
  (main_v9, main_v12, main_v15, main_v18, main_v21, main_v24, main_v27, main_v30, main_v33, main_v36, main_v39, main_v42, main_v45)

def fn_part1 {F : FTy → Type} [FloatOps F] (main_arg7 : FVec F S96x384 .f32) (main_arg8 : FVec F S96 .f32) (main_arg9 : FVec F S96x96 .f32) (main_arg10 : FVec F S96 .f32) (main_arg11 : FVec F S96x96 .f32) (main_arg12 : FVec F S96 .f32) (main_arg13 : FVec F S96 .f32) (main_arg14 : FVec F S96 .f32) (main_arg15 : FVec F S96 .f32) (main_v9 : IVec S8x1024x5 1) (main_v12 : IVec S8x96x32x32 1) (main_v15 : IVec S384x96 1) (main_v16 : FVec F S384 .f32) (main_v17 : FVec F S384 .f32) : IVec S8x1024x5 1 × IVec S8x96x32x32 1 × IVec S384x96 1 × IVec S384 1 × IVec S96x384 1 × IVec S96 1 × IVec S96x96 1 × IVec S96 1 × IVec S96x96 1 × IVec S96 1 × IVec S96 1 × IVec S96 1 × IVec S96 1 :=
  let main_v18 : IVec S384 1 := cmpf .olt main_v16 main_v17
  let main_v19 : FVec F S96x384 .f32 := Host.absf main_arg7
  let main_cst_3 : FVec F S_ .f32 := constant S_ .f32 0x7F800000#32
  let main_v20 : FVec F S96x384 .f32 := broadcastInDim S96x384 ![] bcast_S_S96x384 main_cst_3
  let main_v21 : IVec S96x384 1 := cmpf .olt main_v19 main_v20
  let main_v22 : FVec F S96 .f32 := Host.absf main_arg8
  let main_cst_4 : FVec F S_ .f32 := constant S_ .f32 0x7F800000#32
  let main_v23 : FVec F S96 .f32 := broadcastInDim S96 ![] bcast_S_S96 main_cst_4
  let main_v24 : IVec S96 1 := cmpf .olt main_v22 main_v23
  let main_v25 : FVec F S96x96 .f32 := Host.absf main_arg9
  let main_cst_5 : FVec F S_ .f32 := constant S_ .f32 0x7F800000#32
  let main_v26 : FVec F S96x96 .f32 := broadcastInDim S96x96 ![] bcast_S_S96x96 main_cst_5
  let main_v27 : IVec S96x96 1 := cmpf .olt main_v25 main_v26
  let main_v28 : FVec F S96 .f32 := Host.absf main_arg10
  let main_cst_6 : FVec F S_ .f32 := constant S_ .f32 0x7F800000#32
  let main_v29 : FVec F S96 .f32 := broadcastInDim S96 ![] bcast_S_S96 main_cst_6
  let main_v30 : IVec S96 1 := cmpf .olt main_v28 main_v29
  let main_v31 : FVec F S96x96 .f32 := Host.absf main_arg11
  let main_cst_7 : FVec F S_ .f32 := constant S_ .f32 0x7F800000#32
  let main_v32 : FVec F S96x96 .f32 := broadcastInDim S96x96 ![] bcast_S_S96x96 main_cst_7
  let main_v33 : IVec S96x96 1 := cmpf .olt main_v31 main_v32
  let main_v34 : FVec F S96 .f32 := Host.absf main_arg12
  let main_cst_8 : FVec F S_ .f32 := constant S_ .f32 0x7F800000#32
  let main_v35 : FVec F S96 .f32 := broadcastInDim S96 ![] bcast_S_S96 main_cst_8
  fn_part2 (F := F) main_arg13 main_arg14 main_arg15 main_v9 main_v12 main_v15 main_v18 main_v21 main_v24 main_v27 main_v30 main_v33 main_v34 main_v35

def fn {F : FTy → Type} [FloatOps F] (main_arg0 : FVec F S8x96x32x32 .f32) (main_arg1 : FVec F S384x96 .f32) (main_arg2 : FVec F S384 .f32) (main_arg3 : FVec F S384x96 .f32) (main_arg4 : FVec F S384 .f32) (main_arg5 : FVec F S384x96 .f32) (main_arg6 : FVec F S384 .f32) (main_arg7 : FVec F S96x384 .f32) (main_arg8 : FVec F S96 .f32) (main_arg9 : FVec F S96x96 .f32) (main_arg10 : FVec F S96 .f32) (main_arg11 : FVec F S96x96 .f32) (main_arg12 : FVec F S96 .f32) (main_arg13 : FVec F S96 .f32) (main_arg14 : FVec F S96 .f32) (main_arg15 : FVec F S96 .f32) (main_arg16 : FVec F S96 .f32) : IVec S8x1024x5 1 × IVec S8x96x32x32 1 × IVec S384x96 1 × IVec S384 1 × IVec S96x384 1 × IVec S96 1 × IVec S96x96 1 × IVec S96 1 × IVec S96x96 1 × IVec S96 1 × IVec S96 1 × IVec S96 1 × IVec S96 1 :=
  let main_v0 : FVec F S8x96x1024 .f32 := shapeCast S8x96x1024 main_arg0 shapeCasts_S8x96x32x32_S8x96x1024
  let main_v1 : FVec F S8x1x1024 .f32 := fn_norm (F := F) main_v0
  let main_cst : FVec F S_ .f32 := constant S_ .f32 0x2B8CBCCC#32
  let main_v2 : FVec F S8x1x1024 .f32 := broadcastInDim S8x1x1024 ![] bcast_S_S8x1x1024 main_cst
  let main_v3 : FVec F S8x1x1024 .f32 := maximumf main_v1 main_v2
  let main_v4 : FVec F S8x96x1024 .f32 := broadcastInDim S8x96x1024 ![0, 1, 2] bcast_S8x1x1024_S8x96x1024_0_1_2 main_v3
  let main_v5 : FVec F S8x96x1024 .f32 := Host.divf main_v0 main_v4
  let main_v6 : FVec F S8x1024x1024 .f32 := (fun l r => Host.dotGeneral dot_S8x96x1024_S8x96x1024_S8x1024x1024_1_1_2_2_0_0 none l r) main_v5 main_v5
  let main_values : FVec F S8x1024x6 .f32 := (fun x => (Host.topK S8x1024x6 2 (FloatOps.cmpfTotal .gt) x sliceFits_S8x1024x1024_S8x1024x6).1) main_v6
  let main_indices : IVec S8x1024x6 32 := (fun x => (Host.topK S8x1024x6 2 (FloatOps.cmpfTotal .gt) x sliceFits_S8x1024x1024_S8x1024x6).2) main_v6
  let main_v7 : FVec F S8x1024x5 .f32 := (extractStridedSlice S8x1024x5 ![0, 0, 1] · slices_S8x1024x6_S8x1024x5_0_0_1) main_values
  let main_v8 : FVec F S8x1024x5 .f32 := (extractStridedSlice S8x1024x5 ![0, 0, 0] · slices_S8x1024x6_S8x1024x5_0_0_0) main_values
  let main_v9 : IVec S8x1024x5 1 := cmpf .olt main_v7 main_v8
  let main_v10 : FVec F S8x96x32x32 .f32 := Host.absf main_arg0
  let main_cst_0 : FVec F S_ .f32 := constant S_ .f32 0x7F800000#32
  let main_v11 : FVec F S8x96x32x32 .f32 := broadcastInDim S8x96x32x32 ![] bcast_S_S8x96x32x32 main_cst_0
  let main_v12 : IVec S8x96x32x32 1 := cmpf .olt main_v10 main_v11
  let main_v13 : FVec F S384x96 .f32 := Host.absf main_arg5
  let main_cst_1 : FVec F S_ .f32 := constant S_ .f32 0x7F800000#32
  let main_v14 : FVec F S384x96 .f32 := broadcastInDim S384x96 ![] bcast_S_S384x96 main_cst_1
  let main_v15 : IVec S384x96 1 := cmpf .olt main_v13 main_v14
  let main_v16 : FVec F S384 .f32 := Host.absf main_arg6
  let main_cst_2 : FVec F S_ .f32 := constant S_ .f32 0x7F800000#32
  let main_v17 : FVec F S384 .f32 := broadcastInDim S384 ![] bcast_S_S384 main_cst_2
  fn_part1 (F := F) main_arg7 main_arg8 main_arg9 main_arg10 main_arg11 main_arg12 main_arg13 main_arg14 main_arg15 main_v9 main_v12 main_v15 main_v16 main_v17
-- ==== Kernel.lean ====
abbrev S8x96x32x32 : Shape := ⟨4, ![8, 96, 32, 32]⟩
abbrev S384x96 : Shape := ⟨2, ![384, 96]⟩
abbrev S384 : Shape := ⟨1, ![384]⟩
abbrev S96x384 : Shape := ⟨2, ![96, 384]⟩
abbrev S96 : Shape := ⟨1, ![96]⟩
abbrev S96x96 : Shape := ⟨2, ![96, 96]⟩
abbrev S8x96x1024 : Shape := ⟨3, ![8, 96, 1024]⟩
abbrev S1152x96 : Shape := ⟨2, ![1152, 96]⟩
abbrev S1152 : Shape := ⟨1, ![1152]⟩
abbrev S1152x1 : Shape := ⟨2, ![1152, 1]⟩
abbrev S96x1 : Shape := ⟨2, ![96, 1]⟩
abbrev S96x8192 : Shape := ⟨2, ![96, 8192]⟩
abbrev S1x96x1024 : Shape := ⟨3, ![1, 96, 1024]⟩
abbrev S96x1024 : Shape := ⟨2, ![96, 1024]⟩
abbrev S1152x1024 : Shape := ⟨2, ![1152, 1024]⟩
abbrev S384x1024 : Shape := ⟨2, ![384, 1024]⟩
abbrev S1024 : Shape := ⟨1, ![1024]⟩
abbrev S1x1024 : Shape := ⟨2, ![1, 1024]⟩
abbrev S768x1024 : Shape := ⟨2, ![768, 1024]⟩
abbrev S1024x1024 : Shape := ⟨2, ![1024, 1024]⟩
abbrev S8x1024 : Shape := ⟨2, ![8, 1024]⟩
abbrev S128x8x1024 : Shape := ⟨3, ![128, 8, 1024]⟩
abbrev S1x8x1024 : Shape := ⟨3, ![1, 8, 1024]⟩
abbrev S40x1024 : Shape := ⟨2, ![40, 1024]⟩
abbrev S384x1 : Shape := ⟨2, ![384, 1]⟩

abbrev nBuf : Space → Nat
  | .hbm => 29
  | .vmem => 15
  | .smem => 0
  | _ => 0

abbrev bufTy : (tb : Table) → Fin (tcTables nBuf tb) → BufTy
  | .hbm, ⟨0, _⟩ => ⟨S8x96x32x32, .f32⟩
  | .hbm, ⟨1, _⟩ => ⟨S384x96, .f32⟩
  | .hbm, ⟨2, _⟩ => ⟨S384, .f32⟩
  | .hbm, ⟨3, _⟩ => ⟨S384x96, .f32⟩
  | .hbm, ⟨4, _⟩ => ⟨S384, .f32⟩
  | .hbm, ⟨5, _⟩ => ⟨S384x96, .f32⟩
  | .hbm, ⟨6, _⟩ => ⟨S384, .f32⟩
  | .hbm, ⟨7, _⟩ => ⟨S96x384, .f32⟩
  | .hbm, ⟨8, _⟩ => ⟨S96, .f32⟩
  | .hbm, ⟨9, _⟩ => ⟨S96x96, .f32⟩
  | .hbm, ⟨10, _⟩ => ⟨S96, .f32⟩
  | .hbm, ⟨11, _⟩ => ⟨S96x96, .f32⟩
  | .hbm, ⟨12, _⟩ => ⟨S96, .f32⟩
  | .hbm, ⟨13, _⟩ => ⟨S96, .f32⟩
  | .hbm, ⟨14, _⟩ => ⟨S96, .f32⟩
  | .hbm, ⟨15, _⟩ => ⟨S96, .f32⟩
  | .hbm, ⟨16, _⟩ => ⟨S96, .f32⟩
  | .hbm, ⟨17, _⟩ => ⟨S8x96x1024, .f32⟩
  | .hbm, ⟨18, _⟩ => ⟨S1152x96, .f32⟩
  | .hbm, ⟨19, _⟩ => ⟨S1152, .f32⟩
  | .hbm, ⟨20, _⟩ => ⟨S1152x1, .f32⟩
  | .hbm, ⟨21, _⟩ => ⟨S96x1, .f32⟩
  | .hbm, ⟨22, _⟩ => ⟨S96x1, .f32⟩
  | .hbm, ⟨23, _⟩ => ⟨S96x1, .f32⟩
  | .hbm, ⟨24, _⟩ => ⟨S96x1, .f32⟩
  | .hbm, ⟨25, _⟩ => ⟨S96x1, .f32⟩
  | .hbm, ⟨26, _⟩ => ⟨S96x1, .f32⟩
  | .hbm, ⟨27, _⟩ => ⟨S96x1, .f32⟩
  | .hbm, ⟨28, _⟩ => ⟨S8x96x1024, .f32⟩
  | .local _ .vmem, ⟨0, _⟩ => ⟨S8x96x1024, .f32⟩
  | .local _ .vmem, ⟨1, _⟩ => ⟨S1152x96, .f32⟩
  | .local _ .vmem, ⟨2, _⟩ => ⟨S1152x1, .f32⟩
  | .local _ .vmem, ⟨3, _⟩ => ⟨S96x384, .f32⟩
  | .local _ .vmem, ⟨4, _⟩ => ⟨S96x1, .f32⟩
  | .local _ .vmem, ⟨5, _⟩ => ⟨S96x96, .f32⟩
  | .local _ .vmem, ⟨6, _⟩ => ⟨S96x1, .f32⟩
  | .local _ .vmem, ⟨7, _⟩ => ⟨S96x96, .f32⟩
  | .local _ .vmem, ⟨8, _⟩ => ⟨S96x1, .f32⟩
  | .local _ .vmem, ⟨9, _⟩ => ⟨S96x1, .f32⟩
  | .local _ .vmem, ⟨10, _⟩ => ⟨S96x1, .f32⟩
  | .local _ .vmem, ⟨11, _⟩ => ⟨S96x1, .f32⟩
  | .local _ .vmem, ⟨12, _⟩ => ⟨S96x1, .f32⟩
  | .local _ .vmem, ⟨13, _⟩ => ⟨S8x96x1024, .f32⟩
  | .local _ .vmem, ⟨14, _⟩ => ⟨S96x8192, .f32⟩
  | _, _ => ⟨S8x96x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_v0 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_scratch0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S8x96x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1152x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1152x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S96x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S96x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S96x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S96x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S96x96 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S96x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S96x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S96x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S96x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S96x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S8x96x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== KernelIdeal.lean ====
variable {F : FTy → Type} [FloatOps F] [Named F]
def κ : String → Option EReal := fun
  | "inv36" => some ((1 / 36 : ℝ) : EReal)
  | _ => none
-- ==== ReferenceIdeal.lean ====
abbrev S8x96x32x32 : Shape := ⟨4, ![8, 96, 32, 32]⟩
abbrev S384x96 : Shape := ⟨2, ![384, 96]⟩
abbrev S384 : Shape := ⟨1, ![384]⟩
abbrev S96x384 : Shape := ⟨2, ![96, 384]⟩
abbrev S96 : Shape := ⟨1, ![96]⟩
abbrev S96x96 : Shape := ⟨2, ![96, 96]⟩
abbrev S384x8x32x32 : Shape := ⟨4, ![384, 8, 32, 32]⟩
abbrev S8x384x32x32 : Shape := ⟨4, ![8, 384, 32, 32]⟩
abbrev S1x384x1x1 : Shape := ⟨4, ![1, 384, 1, 1]⟩
abbrev S8x4x96x1024 : Shape := ⟨4, ![8, 4, 96, 1024]⟩
abbrev S8x4x1024x96 : Shape := ⟨4, ![8, 4, 1024, 96]⟩
abbrev S_ : Shape := ⟨0, ![]⟩
abbrev S8x4x1024 : Shape := ⟨3, ![8, 4, 1024]⟩
abbrev S8x4x1024x1 : Shape := ⟨4, ![8, 4, 1024, 1]⟩
abbrev S8x96x1024 : Shape := ⟨3, ![8, 96, 1024]⟩
abbrev S8x1024 : Shape := ⟨2, ![8, 1024]⟩
abbrev S8x1x1024 : Shape := ⟨3, ![8, 1, 1024]⟩
abbrev S8x1024x1024 : Shape := ⟨3, ![8, 1024, 1024]⟩
abbrev S8x1024x5 : Shape := ⟨3, ![8, 1024, 5]⟩
abbrev S1024 : Shape := ⟨1, ![1024]⟩
abbrev S1024x5 : Shape := ⟨2, ![1024, 5]⟩
abbrev S5120 : Shape := ⟨1, ![5120]⟩
abbrev S6144 : Shape := ⟨1, ![6144]⟩
abbrev S8x5120 : Shape := ⟨2, ![8, 5120]⟩
abbrev S8x6144 : Shape := ⟨2, ![8, 6144]⟩
abbrev S6144x1 : Shape := ⟨2, ![6144, 1]⟩
abbrev S8x6144x1 : Shape := ⟨3, ![8, 6144, 1]⟩
abbrev S1x6144 : Shape := ⟨2, ![1, 6144]⟩
abbrev S8x1024x96x4 : Shape := ⟨4, ![8, 1024, 96, 4]⟩
abbrev S8x1024x384 : Shape := ⟨3, ![8, 1024, 384]⟩
abbrev S1024x384 : Shape := ⟨2, ![1024, 384]⟩
abbrev S8x6144x384 : Shape := ⟨3, ![8, 6144, 384]⟩
abbrev S8x4x96 : Shape := ⟨3, ![8, 4, 96]⟩
abbrev S8x4x1x96 : Shape := ⟨4, ![8, 4, 1, 96]⟩
abbrev S96x8x32x32 : Shape := ⟨4, ![96, 8, 32, 32]⟩
abbrev S1x96x1x1 : Shape := ⟨4, ![1, 96, 1, 1]⟩

abbrev nBuf : Space → Nat
  | .hbm => 330
  | .vmem => 0
  | .smem => 0
  | _ => 0

abbrev hbmTy0_0 (i : Nat) : BufTy := match i % 128 with
  | 0 => ⟨S8x96x32x32, .f32⟩
  | 1 => ⟨S384x96, .f32⟩
  | 2 => ⟨S384, .f32⟩
  | 3 => ⟨S384x96, .f32⟩
  | 4 => ⟨S384, .f32⟩
  | 5 => ⟨S384x96, .f32⟩
  | 6 => ⟨S384, .f32⟩
  | 7 => ⟨S96x384, .f32⟩
  | 8 => ⟨S96, .f32⟩
  | 9 => ⟨S96x96, .f32⟩
  | 10 => ⟨S96, .f32⟩
  | 11 => ⟨S96x96, .f32⟩
  | 12 => ⟨S96, .f32⟩
  | 13 => ⟨S96, .f32⟩
  | 14 => ⟨S96, .f32⟩
  | 15 => ⟨S96, .f32⟩
  | 16 => ⟨S96, .f32⟩
  | 17 => ⟨S384x8x32x32, .f32⟩
  | 18 => ⟨S8x384x32x32, .f32⟩
  | 19 => ⟨S1x384x1x1, .f32⟩
  | 20 => ⟨S8x384x32x32, .f32⟩
  | 21 => ⟨S8x384x32x32, .f32⟩
  | 22 => ⟨S8x4x96x1024, .f32⟩
  | 23 => ⟨S8x4x1024x96, .f32⟩
  | 24 => ⟨S384x8x32x32, .f32⟩
  | 25 => ⟨S8x384x32x32, .f32⟩
  | 26 => ⟨S1x384x1x1, .f32⟩
  | 27 => ⟨S8x384x32x32, .f32⟩
  | 28 => ⟨S8x384x32x32, .f32⟩
  | 29 => ⟨S8x4x96x1024, .f32⟩
  | 30 => ⟨S8x4x1024x96, .f32⟩
  | 31 => ⟨S384x8x32x32, .f32⟩
  | 32 => ⟨S8x384x32x32, .f32⟩
  | 33 => ⟨S1x384x1x1, .f32⟩
  | 34 => ⟨S8x384x32x32, .f32⟩
  | 35 => ⟨S8x384x32x32, .f32⟩
  | 36 => ⟨S8x4x96x1024, .f32⟩
  | 37 => ⟨S8x4x1024x96, .f32⟩
  | 38 => ⟨S8x4x1024x96, .f32⟩
  | 39 => ⟨S_, .f32⟩
  | 40 => ⟨S8x4x1024, .f32⟩
  | 41 => ⟨S8x4x1024x1, .f32⟩
  | 42 => ⟨S8x4x1024x1, .f32⟩
  | 43 => ⟨S_, .f32⟩
  | 44 => ⟨S8x4x1024x1, .f32⟩
  | 45 => ⟨S8x4x1024x1, .f32⟩
  | 46 => ⟨S8x4x1024x96, .f32⟩
  | 47 => ⟨S8x4x1024x96, .f32⟩
  | 48 => ⟨S8x4x1024x96, .f32⟩
  | 49 => ⟨S_, .f32⟩
  | 50 => ⟨S8x4x1024, .f32⟩
  | 51 => ⟨S8x4x1024x1, .f32⟩
  | 52 => ⟨S8x4x1024x1, .f32⟩
  | 53 => ⟨S_, .f32⟩
  | 54 => ⟨S8x4x1024x1, .f32⟩
  | 55 => ⟨S8x4x1024x1, .f32⟩
  | 56 => ⟨S8x4x1024x96, .f32⟩
  | 57 => ⟨S8x4x1024x96, .f32⟩
  | 58 => ⟨S8x96x1024, .f32⟩
  | 59 => ⟨S8x96x1024, .f32⟩
  | 60 => ⟨S_, .f32⟩
  | 61 => ⟨S8x1024, .f32⟩
  | 62 => ⟨S8x1x1024, .f32⟩
  | 63 => ⟨S8x1x1024, .f32⟩
  | 64 => ⟨S_, .f32⟩
  | 65 => ⟨S8x1x1024, .f32⟩
  | 66 => ⟨S8x1x1024, .f32⟩
  | 67 => ⟨S8x96x1024, .f32⟩
  | 68 => ⟨S8x96x1024, .f32⟩
  | 69 => ⟨S8x1024x1024, .f32⟩
  | 70 => ⟨S8x1024x5, .f32⟩
  | 71 => ⟨S8x1024x5, .i32⟩
  | 72 => ⟨S1024, .i32⟩
  | 73 => ⟨S1024x5, .i32⟩
  | 74 => ⟨S5120, .i32⟩
  | 75 => ⟨S1024, .i32⟩
  | 76 => ⟨S6144, .i32⟩
  | 77 => ⟨S8x5120, .i32⟩
  | 78 => ⟨S1024, .i32⟩
  | 79 => ⟨S8x1024, .i32⟩
  | 80 => ⟨S8x6144, .i32⟩
  | 81 => ⟨S_, .f32⟩
  | 82 => ⟨S6144, .f32⟩
  | 83 => ⟨S_, .f32⟩
  | 84 => ⟨S1024, .f32⟩
  | 85 => ⟨S6144x1, .i32⟩
  | 86 => ⟨S1024, .f32⟩
  | 87 => ⟨S_, .f32⟩
  | 88 => ⟨S1024, .f32⟩
  | 89 => ⟨S1024, .f32⟩
  | 90 => ⟨S_, .f32⟩
  | 91 => ⟨S1024, .f32⟩
  | 92 => ⟨S1024, .f32⟩
  | 93 => ⟨S_, .i32⟩
  | 94 => ⟨S6144, .i32⟩
  | 95 => ⟨S6144, .i1⟩
  | 96 => ⟨S_, .i32⟩
  | 97 => ⟨S6144, .i32⟩
  | 98 => ⟨S6144, .i32⟩
  | 99 => ⟨S6144, .i32⟩
  | 100 => ⟨S6144x1, .i32⟩
  | 101 => ⟨S6144, .f32⟩
  | 102 => ⟨S6144, .f32⟩
  | 103 => ⟨S_, .i32⟩
  | 104 => ⟨S8x6144, .i32⟩
  | 105 => ⟨S8x6144, .i1⟩
  | 106 => ⟨S_, .i32⟩
  | 107 => ⟨S8x6144, .i32⟩
  | 108 => ⟨S8x6144, .i32⟩
  | 109 => ⟨S8x6144, .i32⟩
  | 110 => ⟨S8x6144x1, .i32⟩
  | 111 => ⟨S8x6144, .f32⟩
  | 112 => ⟨S1x6144, .f32⟩
  | 113 => ⟨S8x6144, .f32⟩
  | 114 => ⟨S8x6144, .f32⟩
  | 115 => ⟨S8x1024x96x4, .f32⟩
  | 116 => ⟨S8x1024x384, .f32⟩
  | 117 => ⟨S_, .f32⟩
  | 118 => ⟨S1024x384, .f32⟩
  | 119 => ⟨S8x6144x1, .f32⟩
  | 120 => ⟨S_, .i32⟩
  | 121 => ⟨S8x6144, .i32⟩
  | 122 => ⟨S8x6144, .i1⟩
  | 123 => ⟨S_, .i32⟩
  | 124 => ⟨S8x6144, .i32⟩
  | 125 => ⟨S8x6144, .i32⟩
  | 126 => ⟨S8x6144, .i32⟩
  | 127 => ⟨S8x6144x1, .i32⟩
  | _ => ⟨S8x96x32x32, .f32⟩

abbrev hbmTy0_1 (i : Nat) : BufTy := match i % 128 with
  | 0 => ⟨S8x6144x384, .f32⟩
  | 1 => ⟨S8x6144x384, .f32⟩
  | 2 => ⟨S8x6144x384, .f32⟩
  | 3 => ⟨S_, .i32⟩
  | 4 => ⟨S6144, .i32⟩
  | 5 => ⟨S6144, .i1⟩
  | 6 => ⟨S_, .i32⟩
  | 7 => ⟨S6144, .i32⟩
  | 8 => ⟨S6144, .i32⟩
  | 9 => ⟨S6144, .i32⟩
  | 10 => ⟨S6144x1, .i32⟩
  | 11 => ⟨S8x1024x384, .f32⟩
  | 12 => ⟨S8x1024x384, .f32⟩
  | 13 => ⟨S8x1024x96x4, .f32⟩
  | 14 => ⟨S8x4x1024x96, .f32⟩
  | 15 => ⟨S1024, .i32⟩
  | 16 => ⟨S1024x5, .i32⟩
  | 17 => ⟨S5120, .i32⟩
  | 18 => ⟨S1024, .i32⟩
  | 19 => ⟨S6144, .i32⟩
  | 20 => ⟨S8x5120, .i32⟩
  | 21 => ⟨S1024, .i32⟩
  | 22 => ⟨S8x1024, .i32⟩
  | 23 => ⟨S8x6144, .i32⟩
  | 24 => ⟨S_, .f32⟩
  | 25 => ⟨S6144, .f32⟩
  | 26 => ⟨S_, .f32⟩
  | 27 => ⟨S1024, .f32⟩
  | 28 => ⟨S6144x1, .i32⟩
  | 29 => ⟨S1024, .f32⟩
  | 30 => ⟨S_, .f32⟩
  | 31 => ⟨S1024, .f32⟩
  | 32 => ⟨S1024, .f32⟩
  | 33 => ⟨S_, .f32⟩
  | 34 => ⟨S1024, .f32⟩
  | 35 => ⟨S1024, .f32⟩
  | 36 => ⟨S_, .i32⟩
  | 37 => ⟨S6144, .i32⟩
  | 38 => ⟨S6144, .i1⟩
  | 39 => ⟨S_, .i32⟩
  | 40 => ⟨S6144, .i32⟩
  | 41 => ⟨S6144, .i32⟩
  | 42 => ⟨S6144, .i32⟩
  | 43 => ⟨S6144x1, .i32⟩
  | 44 => ⟨S6144, .f32⟩
  | 45 => ⟨S6144, .f32⟩
  | 46 => ⟨S_, .i32⟩
  | 47 => ⟨S8x6144, .i32⟩
  | 48 => ⟨S8x6144, .i1⟩
  | 49 => ⟨S_, .i32⟩
  | 50 => ⟨S8x6144, .i32⟩
  | 51 => ⟨S8x6144, .i32⟩
  | 52 => ⟨S8x6144, .i32⟩
  | 53 => ⟨S8x6144x1, .i32⟩
  | 54 => ⟨S8x6144, .f32⟩
  | 55 => ⟨S1x6144, .f32⟩
  | 56 => ⟨S8x6144, .f32⟩
  | 57 => ⟨S8x6144, .f32⟩
  | 58 => ⟨S8x1024x96x4, .f32⟩
  | 59 => ⟨S8x1024x384, .f32⟩
  | 60 => ⟨S_, .f32⟩
  | 61 => ⟨S1024x384, .f32⟩
  | 62 => ⟨S8x6144x1, .f32⟩
  | 63 => ⟨S_, .i32⟩
  | 64 => ⟨S8x6144, .i32⟩
  | 65 => ⟨S8x6144, .i1⟩
  | 66 => ⟨S_, .i32⟩
  | 67 => ⟨S8x6144, .i32⟩
  | 68 => ⟨S8x6144, .i32⟩
  | 69 => ⟨S8x6144, .i32⟩
  | 70 => ⟨S8x6144x1, .i32⟩
  | 71 => ⟨S8x6144x384, .f32⟩
  | 72 => ⟨S8x6144x384, .f32⟩
  | 73 => ⟨S8x6144x384, .f32⟩
  | 74 => ⟨S_, .i32⟩
  | 75 => ⟨S6144, .i32⟩
  | 76 => ⟨S6144, .i1⟩
  | 77 => ⟨S_, .i32⟩
  | 78 => ⟨S6144, .i32⟩
  | 79 => ⟨S6144, .i32⟩
  | 80 => ⟨S6144, .i32⟩
  | 81 => ⟨S6144x1, .i32⟩
  | 82 => ⟨S8x1024x384, .f32⟩
  | 83 => ⟨S8x1024x384, .f32⟩
  | 84 => ⟨S8x1024x96x4, .f32⟩
  | 85 => ⟨S8x4x1024x96, .f32⟩
  | 86 => ⟨S8x4x96, .f32⟩
  | 87 => ⟨S8x4x1x96, .f32⟩
  | 88 => ⟨S8x4x1024x96, .f32⟩
  | 89 => ⟨S8x4x1024x96, .f32⟩
  | 90 => ⟨S8x4x96x1024, .f32⟩
  | 91 => ⟨S8x384x32x32, .f32⟩
  | 92 => ⟨S96x8x32x32, .f32⟩
  | 93 => ⟨S8x96x32x32, .f32⟩
  | 94 => ⟨S1x96x1x1, .f32⟩
  | 95 => ⟨S8x96x32x32, .f32⟩
  | 96 => ⟨S8x96x32x32, .f32⟩
  | 97 => ⟨S96x8x32x32, .f32⟩
  | 98 => ⟨S8x96x32x32, .f32⟩
  | 99 => ⟨S1x96x1x1, .f32⟩
  | 100 => ⟨S8x96x32x32, .f32⟩
  | 101 => ⟨S8x96x32x32, .f32⟩
  | 102 => ⟨S_, .f32⟩
  | 103 => ⟨S96, .f32⟩
  | 104 => ⟨S1x96x1x1, .f32⟩
  | 105 => ⟨S_, .f32⟩
  | 106 => ⟨S1x96x1x1, .f32⟩
  | 107 => ⟨S1x96x1x1, .f32⟩
  | 108 => ⟨S_, .i32⟩
  | 109 => ⟨S_, .f32⟩
  | 110 => ⟨S96, .f32⟩
  | 111 => ⟨S1x96x1x1, .f32⟩
  | 112 => ⟨S_, .f32⟩
  | 113 => ⟨S1x96x1x1, .f32⟩
  | 114 => ⟨S1x96x1x1, .f32⟩
  | 115 => ⟨S8x96x32x32, .f32⟩
  | 116 => ⟨S8x96x32x32, .f32⟩
  | 117 => ⟨S8x96x32x32, .f32⟩
  | 118 => ⟨S_, .f32⟩
  | 119 => ⟨S_, .f32⟩
  | 120 => ⟨S_, .f32⟩
  | 121 => ⟨S_, .f32⟩
  | 122 => ⟨S96, .f32⟩
  | 123 => ⟨S1x96x1x1, .f32⟩
  | 124 => ⟨S1x96x1x1, .f32⟩
  | 125 => ⟨S1x96x1x1, .f32⟩
  | 126 => ⟨S_, .f32⟩
  | 127 => ⟨S_, .i1⟩
  | _ => ⟨S8x96x32x32, .f32⟩

abbrev hbmTy0_2 (i : Nat) : BufTy := match i % 128 with
  | 0 => ⟨S_, .f32⟩
  | 1 => ⟨S_, .f32⟩
  | 2 => ⟨S1x96x1x1, .f32⟩
  | 3 => ⟨S1x96x1x1, .f32⟩
  | 4 => ⟨S8x96x32x32, .f32⟩
  | 5 => ⟨S8x96x32x32, .f32⟩
  | 6 => ⟨S_, .f32⟩
  | 7 => ⟨S1x96x1x1, .f32⟩
  | 8 => ⟨S1x96x1x1, .f32⟩
  | 9 => ⟨S1x96x1x1, .f32⟩
  | 10 => ⟨S8x96x32x32, .f32⟩
  | 11 => ⟨S8x96x32x32, .f32⟩
  | 12 => ⟨S1x96x1x1, .f32⟩
  | 13 => ⟨S8x96x32x32, .f32⟩
  | 14 => ⟨S8x96x32x32, .f32⟩
  | 15 => ⟨S1x96x1x1, .f32⟩
  | 16 => ⟨S8x96x32x32, .f32⟩
  | 17 => ⟨S8x96x32x32, .f32⟩
  | 18 => ⟨S_, .f32⟩
  | 19 => ⟨S8x96x32x32, .f32⟩
  | 20 => ⟨S8x96x32x32, .f32⟩
  | 21 => ⟨S96x8x32x32, .f32⟩
  | 22 => ⟨S8x96x32x32, .f32⟩
  | 23 => ⟨S1x96x1x1, .f32⟩
  | 24 => ⟨S8x96x32x32, .f32⟩
  | 25 => ⟨S8x96x32x32, .f32⟩
  | 26 => ⟨S_, .f32⟩
  | 27 => ⟨S96, .f32⟩
  | 28 => ⟨S1x96x1x1, .f32⟩
  | 29 => ⟨S_, .f32⟩
  | 30 => ⟨S1x96x1x1, .f32⟩
  | 31 => ⟨S1x96x1x1, .f32⟩
  | 32 => ⟨S_, .i32⟩
  | 33 => ⟨S_, .f32⟩
  | 34 => ⟨S96, .f32⟩
  | 35 => ⟨S1x96x1x1, .f32⟩
  | 36 => ⟨S_, .f32⟩
  | 37 => ⟨S1x96x1x1, .f32⟩
  | 38 => ⟨S1x96x1x1, .f32⟩
  | 39 => ⟨S8x96x32x32, .f32⟩
  | 40 => ⟨S8x96x32x32, .f32⟩
  | 41 => ⟨S8x96x32x32, .f32⟩
  | 42 => ⟨S_, .f32⟩
  | 43 => ⟨S_, .f32⟩
  | 44 => ⟨S_, .f32⟩
  | 45 => ⟨S_, .f32⟩
  | 46 => ⟨S96, .f32⟩
  | 47 => ⟨S1x96x1x1, .f32⟩
  | 48 => ⟨S1x96x1x1, .f32⟩
  | 49 => ⟨S1x96x1x1, .f32⟩
  | 50 => ⟨S_, .f32⟩
  | 51 => ⟨S_, .i1⟩
  | 52 => ⟨S_, .f32⟩
  | 53 => ⟨S_, .f32⟩
  | 54 => ⟨S1x96x1x1, .f32⟩
  | 55 => ⟨S1x96x1x1, .f32⟩
  | 56 => ⟨S8x96x32x32, .f32⟩
  | 57 => ⟨S8x96x32x32, .f32⟩
  | 58 => ⟨S_, .f32⟩
  | 59 => ⟨S1x96x1x1, .f32⟩
  | 60 => ⟨S1x96x1x1, .f32⟩
  | 61 => ⟨S1x96x1x1, .f32⟩
  | 62 => ⟨S8x96x32x32, .f32⟩
  | 63 => ⟨S8x96x32x32, .f32⟩
  | 64 => ⟨S1x96x1x1, .f32⟩
  | 65 => ⟨S8x96x32x32, .f32⟩
  | 66 => ⟨S8x96x32x32, .f32⟩
  | 67 => ⟨S1x96x1x1, .f32⟩
  | 68 => ⟨S8x96x32x32, .f32⟩
  | 69 => ⟨S8x96x32x32, .f32⟩
  | 70 => ⟨S_, .f32⟩
  | 71 => ⟨S8x96x32x32, .f32⟩
  | 72 => ⟨S8x96x32x32, .f32⟩
  | 73 => ⟨S8x96x1024, .f32⟩
  | _ => ⟨S8x96x32x32, .f32⟩

abbrev hbmTy (i : Nat) : BufTy := match i / 128 with
  | 0 => hbmTy0_0 i
  | 1 => hbmTy0_1 i
  | 2 => hbmTy0_2 i
  | _ => ⟨S8x96x32x32, .f32⟩

abbrev bufTy : (tb : Table) → Fin (tcTables nBuf tb) → BufTy
  | .hbm, ⟨i, _⟩ => hbmTy i
  | _, _ => ⟨S8x96x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_call0_v0 : Ref sig .tc := ⟨.hbm, 38, rfl⟩
abbrev main_call0_cst : Ref sig .tc := ⟨.hbm, 39, rfl⟩
abbrev main_call0_v1 : Ref sig .tc := ⟨.hbm, 40, rfl⟩
abbrev main_call0_v2 : Ref sig .tc := ⟨.hbm, 41, rfl⟩
abbrev main_v21 : Ref sig .tc := ⟨.hbm, 42, rfl⟩
abbrev main_cst : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_call1_v0 : Ref sig .tc := ⟨.hbm, 48, rfl⟩
abbrev main_call1_cst : Ref sig .tc := ⟨.hbm, 49, rfl⟩
abbrev main_call1_v1 : Ref sig .tc := ⟨.hbm, 50, rfl⟩
abbrev main_call1_v2 : Ref sig .tc := ⟨.hbm, 51, rfl⟩
abbrev main_v26 : Ref sig .tc := ⟨.hbm, 52, rfl⟩
abbrev main_cst_0 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_call2_v0 : Ref sig .tc := ⟨.hbm, 59, rfl⟩
abbrev main_call2_cst : Ref sig .tc := ⟨.hbm, 60, rfl⟩
abbrev main_call2_v1 : Ref sig .tc := ⟨.hbm, 61, rfl⟩
abbrev main_call2_v2 : Ref sig .tc := ⟨.hbm, 62, rfl⟩
abbrev main_v32 : Ref sig .tc := ⟨.hbm, 63, rfl⟩
abbrev main_cst_1 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_values : Ref sig .tc := ⟨.hbm, 70, rfl⟩
abbrev main_indices : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_cst_2 : Ref sig .tc := ⟨.hbm, 81, rfl⟩
abbrev main_v47 : Ref sig .tc := ⟨.hbm, 82, rfl⟩
abbrev main_cst_3 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_cst_4 : Ref sig .tc := ⟨.hbm, 87, rfl⟩
abbrev main_v51 : Ref sig .tc := ⟨.hbm, 88, rfl⟩
abbrev main_v52 : Ref sig .tc := ⟨.hbm, 89, rfl⟩
abbrev main_cst_5 : Ref sig .tc := ⟨.hbm, 90, rfl⟩
abbrev main_v53 : Ref sig .tc := ⟨.hbm, 91, rfl⟩
abbrev main_v54 : Ref sig .tc := ⟨.hbm, 92, rfl⟩
abbrev main_c : Ref sig .tc := ⟨.hbm, 93, rfl⟩
abbrev main_v55 : Ref sig .tc := ⟨.hbm, 94, rfl⟩
abbrev main_v56 : Ref sig .tc := ⟨.hbm, 95, rfl⟩
abbrev main_c_6 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_c_7 : Ref sig .tc := ⟨.hbm, 103, rfl⟩
abbrev main_v63 : Ref sig .tc := ⟨.hbm, 104, rfl⟩
abbrev main_v64 : Ref sig .tc := ⟨.hbm, 105, rfl⟩
abbrev main_c_8 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_cst_9 : Ref sig .tc := ⟨.hbm, 117, rfl⟩
abbrev main_v75 : Ref sig .tc := ⟨.hbm, 118, rfl⟩
abbrev main_v76 : Ref sig .tc := ⟨.hbm, 119, rfl⟩
abbrev main_c_10 : Ref sig .tc := ⟨.hbm, 120, rfl⟩
abbrev main_v77 : Ref sig .tc := ⟨.hbm, 121, rfl⟩
abbrev main_v78 : Ref sig .tc := ⟨.hbm, 122, rfl⟩
abbrev main_c_11 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_c_12 : Ref sig .tc := ⟨.hbm, 131, rfl⟩
abbrev main_v86 : Ref sig .tc := ⟨.hbm, 132, rfl⟩
abbrev main_v87 : Ref sig .tc := ⟨.hbm, 133, rfl⟩
abbrev main_c_13 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_cst_14 : Ref sig .tc := ⟨.hbm, 152, rfl⟩
abbrev main_v105 : Ref sig .tc := ⟨.hbm, 153, rfl⟩
abbrev main_cst_15 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_cst_16 : Ref sig .tc := ⟨.hbm, 158, rfl⟩
abbrev main_v109 : Ref sig .tc := ⟨.hbm, 159, rfl⟩
abbrev main_v110 : Ref sig .tc := ⟨.hbm, 160, rfl⟩
abbrev main_cst_17 : Ref sig .tc := ⟨.hbm, 161, rfl⟩
abbrev main_v111 : Ref sig .tc := ⟨.hbm, 162, rfl⟩
abbrev main_v112 : Ref sig .tc := ⟨.hbm, 163, rfl⟩
abbrev main_c_18 : Ref sig .tc := ⟨.hbm, 164, rfl⟩
abbrev main_v113 : Ref sig .tc := ⟨.hbm, 165, rfl⟩
abbrev main_v114 : Ref sig .tc := ⟨.hbm, 166, rfl⟩
abbrev main_c_19 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_c_20 : Ref sig .tc := ⟨.hbm, 174, rfl⟩
abbrev main_v121 : Ref sig .tc := ⟨.hbm, 175, rfl⟩
abbrev main_v122 : Ref sig .tc := ⟨.hbm, 176, rfl⟩
abbrev main_c_21 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_cst_22 : Ref sig .tc := ⟨.hbm, 188, rfl⟩
abbrev main_v133 : Ref sig .tc := ⟨.hbm, 189, rfl⟩
abbrev main_v134 : Ref sig .tc := ⟨.hbm, 190, rfl⟩
abbrev main_c_23 : Ref sig .tc := ⟨.hbm, 191, rfl⟩
abbrev main_v135 : Ref sig .tc := ⟨.hbm, 192, rfl⟩
abbrev main_v136 : Ref sig .tc := ⟨.hbm, 193, rfl⟩
abbrev main_c_24 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_c_25 : Ref sig .tc := ⟨.hbm, 202, rfl⟩
abbrev main_v144 : Ref sig .tc := ⟨.hbm, 203, rfl⟩
abbrev main_v145 : Ref sig .tc := ⟨.hbm, 204, rfl⟩
abbrev main_c_26 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_cst_27 : Ref sig .tc := ⟨.hbm, 230, rfl⟩
abbrev main_v170 : Ref sig .tc := ⟨.hbm, 231, rfl⟩
abbrev main_v171 : Ref sig .tc := ⟨.hbm, 232, rfl⟩
abbrev main_cst_28 : Ref sig .tc := ⟨.hbm, 233, rfl⟩
abbrev main_v172 : Ref sig .tc := ⟨.hbm, 234, rfl⟩
abbrev main_v173 : Ref sig .tc := ⟨.hbm, 235, rfl⟩
abbrev main_c_29 : Ref sig .tc := ⟨.hbm, 236, rfl⟩
abbrev main_call3_cst : Ref sig .tc := ⟨.hbm, 237, rfl⟩
abbrev main_call3_v0 : Ref sig .tc := ⟨.hbm, 238, rfl⟩
abbrev main_call3_v1 : Ref sig .tc := ⟨.hbm, 239, rfl⟩
abbrev main_call3_cst_0 : Ref sig .tc := ⟨.hbm, 240, rfl⟩
abbrev main_call3_v2 : Ref sig .tc := ⟨.hbm, 241, rfl⟩
abbrev main_call3_v3 : Ref sig .tc := ⟨.hbm, 242, rfl⟩
abbrev main_call3_v4 : Ref sig .tc := ⟨.hbm, 243, rfl⟩
abbrev main_call3_v5 : Ref sig .tc := ⟨.hbm, 244, rfl⟩
abbrev main_call3_v6 : Ref sig .tc := ⟨.hbm, 245, rfl⟩
abbrev main_call3_v7 : Ref sig .tc := ⟨.hbm, 246, rfl⟩
abbrev main_call3_cst_1 : Ref sig .tc := ⟨.hbm, 247, rfl⟩
abbrev main_call3_v8 : Ref sig .tc := ⟨.hbm, 248, rfl⟩
abbrev main_call3_cst_2 : Ref sig .tc := ⟨.hbm, 249, rfl⟩
abbrev main_call3_v9 : Ref sig .tc := ⟨.hbm, 250, rfl⟩
abbrev main_call3_v10 : Ref sig .tc := ⟨.hbm, 251, rfl⟩
abbrev main_call3_v11 : Ref sig .tc := ⟨.hbm, 252, rfl⟩
abbrev main_call3_v12 : Ref sig .tc := ⟨.hbm, 253, rfl⟩
abbrev main_call3_cst_3 : Ref sig .tc := ⟨.hbm, 254, rfl⟩
abbrev main_call3_v13 : Ref sig .tc := ⟨.hbm, 255, rfl⟩
abbrev main_call3_cst_4 : Ref sig .tc := ⟨.hbm, 256, rfl⟩
abbrev main_call3_call0_v0 : Ref sig .tc := ⟨.hbm, 257, rfl⟩
abbrev main_call3_call0_v1 : Ref sig .tc := ⟨.hbm, 258, rfl⟩
abbrev main_v174 : Ref sig .tc := ⟨.hbm, 259, rfl⟩
abbrev main_v175 : Ref sig .tc := ⟨.hbm, 260, rfl⟩
abbrev main_v176 : Ref sig .tc := ⟨.hbm, 261, rfl⟩
abbrev main_cst_30 : Ref sig .tc := ⟨.hbm, 262, rfl⟩
abbrev main_v177 : Ref sig .tc := ⟨.hbm, 263, rfl⟩
abbrev main_v178 : Ref sig .tc := ⟨.hbm, 264, rfl⟩
abbrev main_v179 : Ref sig .tc := ⟨.hbm, 265, rfl⟩
abbrev main_v180 : Ref sig .tc := ⟨.hbm, 266, rfl⟩
abbrev main_v181 : Ref sig .tc := ⟨.hbm, 267, rfl⟩
abbrev main_v182 : Ref sig .tc := ⟨.hbm, 268, rfl⟩
abbrev main_v183 : Ref sig .tc := ⟨.hbm, 269, rfl⟩
abbrev main_v184 : Ref sig .tc := ⟨.hbm, 270, rfl⟩
abbrev main_v185 : Ref sig .tc := ⟨.hbm, 271, rfl⟩
abbrev main_v186 : Ref sig .tc := ⟨.hbm, 272, rfl⟩
abbrev main_v187 : Ref sig .tc := ⟨.hbm, 273, rfl⟩
abbrev main_call4_cst : Ref sig .tc := ⟨.hbm, 274, rfl⟩
abbrev main_call4_v0 : Ref sig .tc := ⟨.hbm, 275, rfl⟩
abbrev main_v188 : Ref sig .tc := ⟨.hbm, 276, rfl⟩
abbrev main_v189 : Ref sig .tc := ⟨.hbm, 277, rfl⟩
abbrev main_v190 : Ref sig .tc := ⟨.hbm, 278, rfl⟩
abbrev main_v191 : Ref sig .tc := ⟨.hbm, 279, rfl⟩
abbrev main_v192 : Ref sig .tc := ⟨.hbm, 280, rfl⟩
abbrev main_v193 : Ref sig .tc := ⟨.hbm, 281, rfl⟩
abbrev main_cst_31 : Ref sig .tc := ⟨.hbm, 282, rfl⟩
abbrev main_v194 : Ref sig .tc := ⟨.hbm, 283, rfl⟩
abbrev main_v195 : Ref sig .tc := ⟨.hbm, 284, rfl⟩
abbrev main_cst_32 : Ref sig .tc := ⟨.hbm, 285, rfl⟩
abbrev main_v196 : Ref sig .tc := ⟨.hbm, 286, rfl⟩
abbrev main_v197 : Ref sig .tc := ⟨.hbm, 287, rfl⟩
abbrev main_c_33 : Ref sig .tc := ⟨.hbm, 288, rfl⟩
abbrev main_call5_cst : Ref sig .tc := ⟨.hbm, 289, rfl⟩
abbrev main_call5_v0 : Ref sig .tc := ⟨.hbm, 290, rfl⟩
abbrev main_call5_v1 : Ref sig .tc := ⟨.hbm, 291, rfl⟩
abbrev main_call5_cst_0 : Ref sig .tc := ⟨.hbm, 292, rfl⟩
abbrev main_call5_v2 : Ref sig .tc := ⟨.hbm, 293, rfl⟩
abbrev main_call5_v3 : Ref sig .tc := ⟨.hbm, 294, rfl⟩
abbrev main_call5_v4 : Ref sig .tc := ⟨.hbm, 295, rfl⟩
abbrev main_call5_v5 : Ref sig .tc := ⟨.hbm, 296, rfl⟩
abbrev main_call5_v6 : Ref sig .tc := ⟨.hbm, 297, rfl⟩
abbrev main_call5_v7 : Ref sig .tc := ⟨.hbm, 298, rfl⟩
abbrev main_call5_cst_1 : Ref sig .tc := ⟨.hbm, 299, rfl⟩
abbrev main_call5_v8 : Ref sig .tc := ⟨.hbm, 300, rfl⟩
abbrev main_call5_cst_2 : Ref sig .tc := ⟨.hbm, 301, rfl⟩
abbrev main_call5_v9 : Ref sig .tc := ⟨.hbm, 302, rfl⟩
abbrev main_call5_v10 : Ref sig .tc := ⟨.hbm, 303, rfl⟩
abbrev main_call5_v11 : Ref sig .tc := ⟨.hbm, 304, rfl⟩
abbrev main_call5_v12 : Ref sig .tc := ⟨.hbm, 305, rfl⟩
abbrev main_call5_cst_3 : Ref sig .tc := ⟨.hbm, 306, rfl⟩
abbrev main_call5_v13 : Ref sig .tc := ⟨.hbm, 307, rfl⟩
abbrev main_call5_cst_4 : Ref sig .tc := ⟨.hbm, 308, rfl⟩
abbrev main_call5_call0_v0 : Ref sig .tc := ⟨.hbm, 309, rfl⟩
abbrev main_call5_call0_v1 : Ref sig .tc := ⟨.hbm, 310, rfl⟩
abbrev main_v198 : Ref sig .tc := ⟨.hbm, 311, rfl⟩
abbrev main_v199 : Ref sig .tc := ⟨.hbm, 312, rfl⟩
abbrev main_v200 : Ref sig .tc := ⟨.hbm, 313, rfl⟩
abbrev main_cst_34 : Ref sig .tc := ⟨.hbm, 314, rfl⟩
abbrev main_v201 : Ref sig .tc := ⟨.hbm, 315, rfl⟩
abbrev main_v202 : Ref sig .tc := ⟨.hbm, 316, rfl⟩
abbrev main_v203 : Ref sig .tc := ⟨.hbm, 317, rfl⟩
abbrev main_v204 : Ref sig .tc := ⟨.hbm, 318, rfl⟩
abbrev main_v205 : Ref sig .tc := ⟨.hbm, 319, rfl⟩
abbrev main_v206 : Ref sig .tc := ⟨.hbm, 320, rfl⟩
abbrev main_v207 : Ref sig .tc := ⟨.hbm, 321, rfl⟩
abbrev main_v208 : Ref sig .tc := ⟨.hbm, 322, rfl⟩
abbrev main_v209 : Ref sig .tc := ⟨.hbm, 323, rfl⟩
abbrev main_v210 : Ref sig .tc := ⟨.hbm, 324, rfl⟩
abbrev main_v211 : Ref sig .tc := ⟨.hbm, 325, rfl⟩
abbrev main_call6_cst : Ref sig .tc := ⟨.hbm, 326, rfl⟩
abbrev main_call6_v0 : Ref sig .tc := ⟨.hbm, 327, rfl⟩
abbrev main_v212 : Ref sig .tc := ⟨.hbm, 328, rfl⟩
abbrev main_v213 : Ref sig .tc := ⟨.hbm, 329, rfl⟩

abbrev nD : Nat := 1
abbrev τ : Topo := Topo.v7x

variable {F : FTy → Type} [FloatOps F]
-- ==== Proof.Body.lean ====
/- The kernel's body written once: what one batch element computes, as functions of the arrays the body loads, and what
   the two normalisations after the last batch element compute. The eight unrolled copies of the body are these
   functions at the eight batch elements; the unrolled insertion network is `Body.tops`, a recursion over the slabs. -/
module

public import proofs.«01_k».proof.Proof.Gen.KernelIdeal

@[expose] public section

set_option maxRecDepth 16384

noncomputable section

namespace Cert.KernelIdeal.Body

open Cert.KernelIdeal Cert.KernelIdeal.Gen Idealize.ShloMosaic Idealize.SL.Sem

variable {F : FTy → Type} [FloatOps F] [Named F]

/-- Each column over its length, which is cut off below at 1e-12. -/
def unitCols (t : FVec F S96x1024 .f32) : FVec F S96x1024 .f32 :=
  divf t (broadcastTo S96x1024 (maximumf (sqrt (shapeCast S1x1024
    (multiReduction .add [0] S1024 (mulf t t) 0x00000000#32 reduces_S96x1024_S1024 (.inl rfl) rfl)
    shapeCasts_S1024_S1x1024)) (broadcast S1x1024 (Scalar.ofBits .f32 0x2B8CBCCC#32))) broadcasts_S1x1024_S96x1024)

/-- The keys, the values and the queries of one batch element, one under the other. -/
def kvq (w : FVec F S1152x96 .f32) (b : FVec F S1152x1 .f32) (x : FVec F S96x1024 .f32) : FVec F S1152x1024 .f32 :=
  addf (matmul dot_S1152x96_S96x1024_S1152x1024_1_0_0_1_n_n none w x (constant S1152x1024 .f32 0x00000000#32))
    (broadcastTo S1152x1024 b broadcasts_S1152x1_S1152x1024)

/-- The four heads of `t`, each column of each head normalised. -/
def head0 (t : FVec F S384x1024 .f32) : FVec F S96x1024 .f32 :=
  unitCols (extractStridedSlice S96x1024 ![0, 0] t slices_S384x1024_o0_0_S96x1024)
/-- The second head. -/
def head1 (t : FVec F S384x1024 .f32) : FVec F S96x1024 .f32 :=
  unitCols (extractStridedSlice S96x1024 ![96, 0] t slices_S384x1024_o96_0_S96x1024)
/-- The third head. -/
def head2 (t : FVec F S384x1024 .f32) : FVec F S96x1024 .f32 :=
  unitCols (extractStridedSlice S96x1024 ![192, 0] t slices_S384x1024_o192_0_S96x1024)
/-- The fourth head. -/
def head3 (t : FVec F S384x1024 .f32) : FVec F S96x1024 .f32 :=
  unitCols (extractStridedSlice S96x1024 ![288, 0] t slices_S384x1024_o288_0_S96x1024)

/-- The normalised queries. -/
def queries (u : FVec F S1152x1024 .f32) : FVec F S384x1024 .f32 :=
  let t := extractStridedSlice S384x1024 ![768, 0] u slices_S1152x1024_o768_0_S384x1024
  concatenate S384x1024 0 [⟨S96x1024, head0 t⟩, ⟨S96x1024, head1 t⟩, ⟨S96x1024, head2 t⟩, ⟨S96x1024, head3 t⟩]
    concatenates_S96x1024_S96x1024_S96x1024_S96x1024_S384x1024_d0

/-- The normalised keys over the values. -/
def keysVals (u : FVec F S1152x1024 .f32) : FVec F S768x1024 .f32 :=
  let t := extractStridedSlice S384x1024 ![0, 0] u slices_S1152x1024_o0_0_S384x1024
  concatenate S768x1024 0 [⟨S96x1024, head0 t⟩, ⟨S96x1024, head1 t⟩, ⟨S96x1024, head2 t⟩, ⟨S96x1024, head3 t⟩,
    ⟨S384x1024, extractStridedSlice S384x1024 ![384, 0] u slices_S1152x1024_o384_0_S384x1024⟩]
    concatenates_S96x1024_S96x1024_S96x1024_S96x1024_S384x1024_S768x1024_d0

/-- The similarities of one batch element's positions. -/
def sim (x : FVec F S96x1024 .f32) : FVec F S1024x1024 .f32 :=
  matmul dot_S96x1024_S96x1024_S1024x1024_0_0_1_1_n_n none (unitCols x) (unitCols x)
    (constant S1024x1024 .f32 0x00000000#32)

/-- The five running maxima of the insertion network. -/
structure Tops (F : FTy → Type) where
  t1 : FVec F S8x1024 .f32
  t2 : FVec F S8x1024 .f32
  t3 : FVec F S8x1024 .f32
  t4 : FVec F S8x1024 .f32
  t5 : FVec F S8x1024 .f32

/-- One step of the insertion network: `x` is inserted in the five maxima, and the least of the six is dropped. -/
def Tops.insert (T : Tops F) (x : FVec F S8x1024 .f32) : Tops F where
  t1 := maximumf T.t1 x
  t2 := maximumf T.t2 (minimumf T.t1 x)
  t3 := maximumf T.t3 (minimumf T.t2 (minimumf T.t1 x))
  t4 := maximumf T.t4 (minimumf T.t3 (minimumf T.t2 (minimumf T.t1 x)))
  t5 := maximumf T.t5 (minimumf T.t4 (minimumf T.t3 (minimumf T.t2 (minimumf T.t1 x))))

/-- Slab `i` of the 128 slabs of eight rows is inside the array. -/
theorem slab_fits (i : ℕ) (h : i + 1 ≤ 128) : S128x8x1024.Slices ![i, 0, 0] S1x8x1024 := by
  refine ⟨rfl, fun a => ?_⟩
  match a with
  | ⟨0, _⟩ => exact h
  | ⟨1, _⟩ => exact le_refl 8
  | ⟨2, _⟩ => exact le_refl 1024

/-- Slab `i` of the similarities: rows `8 * i` to `8 * i + 7`. -/
def slab (s : FVec F S128x8x1024 .f32) (i : ℕ) (h : i + 1 ≤ 128) : FVec F S8x1024 .f32 :=
  shapeCast S8x1024 (extractStridedSlice S1x8x1024 ![i, 0, 0] s (slab_fits i h)) shapeCasts_S1x8x1024_S8x1024

/-- The five maxima after the first `n` slabs. -/
def tops (s : FVec F S128x8x1024 .f32) (n : ℕ) (h : n ≤ 128) : Tops F :=
  Nat.rec (motive := fun n => n ≤ 128 → Tops F)
    (fun _ => ⟨broadcast S8x1024 (Scalar.ofBits .f32 0xFF800000#32), broadcast S8x1024 (Scalar.ofBits .f32 0xFF800000#32),
      broadcast S8x1024 (Scalar.ofBits .f32 0xFF800000#32), broadcast S8x1024 (Scalar.ofBits .f32 0xFF800000#32),
      broadcast S8x1024 (Scalar.ofBits .f32 0xFF800000#32)⟩)
    (fun i ih h => (ih (Nat.le_of_succ_le h)).insert (slab s i h)) n h

/-- The candidates: the five maxima of each of the eight rows of slabs. -/
def cands (T : Tops F) : FVec F S40x1024 .f32 :=
  concatenate S40x1024 0 [⟨S8x1024, T.t1⟩, ⟨S8x1024, T.t2⟩, ⟨S8x1024, T.t3⟩, ⟨S8x1024, T.t4⟩, ⟨S8x1024, T.t5⟩]
    concatenates_S8x1024_S8x1024_S8x1024_S8x1024_S8x1024_S40x1024_d0

/-- Each column's greatest candidate. -/
def colMax (c : FVec F S40x1024 .f32) : FVec F S1x1024 .f32 :=
  shapeCast S1x1024 (multiReduction .maximumf [0] S1024 c 0xFF800000#32 reduces_S40x1024_S1024 (.inl rfl) rfl)
    shapeCasts_S1024_S1x1024

/-- Each column without its greatest candidate. -/
def dropMax (c : FVec F S40x1024 .f32) : FVec F S40x1024 .f32 :=
  select (cmpf .oeq c (broadcastTo S40x1024 (colMax c) broadcasts_S1x1024_S40x1024))
    (broadcast S40x1024 (Scalar.ofBits .f32 0xFF800000#32)) c

/-- The threshold of each column: its fifth greatest candidate. -/
def thr (s : FVec F S1024x1024 .f32) : FVec F S1x1024 .f32 :=
  colMax (dropMax (dropMax (dropMax (dropMax (cands
    (tops (shapeCast S128x8x1024 s shapeCasts_S1024x1024_S128x8x1024) 128 (le_refl 128)))))))

/-- The graph: one where the similarity reaches the threshold, zero elsewhere. -/
def adj (s : FVec F S1024x1024 .f32) : FVec F S1024x1024 .f32 :=
  select (cmpf .oge s (broadcastTo S1024x1024 (thr s) broadcasts_S1x1024_S1024x1024))
    (broadcast S1024x1024 (Scalar.ofBits .f32 0x3F800000#32)) (broadcast S1024x1024 (Scalar.ofBits .f32 0x00000000#32))

/-- The keys and values summed over each vertex's neighbours and the vertex itself. -/
def lap (kv : FVec F S768x1024 .f32) (a : FVec F S1024x1024 .f32) : FVec F S768x1024 .f32 :=
  addf (matmul dot_S768x1024_S1024x1024_S768x1024_1_0_0_1_n_n none kv a (constant S768x1024 .f32 0x00000000#32)) kv

/-- The products of keys and values summed over the positions, times 1/36. -/
def kvSum (l : FVec F S768x1024 .f32) : FVec F S384x1 .f32 :=
  mulf (shapeCast S384x1 (multiReduction .add [1] S384
      (mulf (extractStridedSlice S384x1024 ![0, 0] l slices_S768x1024_o0_0_S384x1024)
        (extractStridedSlice S384x1024 ![384, 0] l slices_S768x1024_o384_0_S384x1024))
      0x00000000#32 reduces_S384x1024_S384 (.inl rfl) rfl) shapeCasts_S384_S384x1)
    (broadcast S384x1 (Named.named κ "inv36" 0x3CE38E39#32))

/-- The queries times the sums. -/
def hydra (q : FVec F S384x1024 .f32) (k : FVec F S384x1 .f32) : FVec F S384x1024 .f32 :=
  mulf q (broadcastTo S384x1024 k broadcasts_S384x1_S384x1024)

/-- The product of the first two convolutions' matrices. -/
def wpg (wg1 : FVec F S96x96 .f32) (wp : FVec F S96x384 .f32) : FVec F S96x384 .f32 :=
  matmul dot_S96x96_S96x384_S96x384_1_0_0_1_n_n none wg1 wp (constant S96x384 .f32 0x00000000#32)

/-- The first two convolutions' bias. -/
def bpg (wg1 : FVec F S96x96 .f32) (bp bg1 : FVec F S96x1 .f32) : FVec F S96x1 .f32 :=
  addf (matmul dot_S96x96_S96x1_S96x1_1_0_0_1_n_n none wg1 (shapeCast S96x1 bp shapeCasts_S96x1_S96x1)
    (constant S96x1 .f32 0x00000000#32)) (shapeCast S96x1 bg1 shapeCasts_S96x1_S96x1)

/-- The block of the scratch array that one batch element writes. -/
def z1 (w : FVec F S1152x96 .f32) (b : FVec F S1152x1 .f32) (wp : FVec F S96x384 .f32) (bp : FVec F S96x1 .f32)
    (wg1 : FVec F S96x96 .f32) (bg1 : FVec F S96x1 .f32) (xb : FVec F S1x96x1024 .f32) : FVec F S96x1024 .f32 :=
  let x := shapeCast S96x1024 xb shapeCasts_S1x96x1024_S96x1024
  let u := kvq (shapeCast S1152x96 w shapeCasts_S1152x96_S1152x96) (shapeCast S1152x1 b shapeCasts_S1152x1_S1152x1) x
  shapeCast S96x1024
    (addf (matmul dot_S96x384_S384x1024_S96x1024_1_0_0_1_n_n none (wpg wg1 wp)
        (hydra (queries u) (kvSum (lap (keysVals u) (adj (sim x))))) (constant S96x1024 .f32 0x00000000#32))
      (broadcastTo S96x1024 (bpg wg1 bp bg1) broadcasts_S96x1_S96x1024)) shapeCasts_S96x1024_S96x1024

/-- The mean of each row. -/
def mean (z : FVec F S96x8192 .f32) : FVec F S96x1 .f32 :=
  divf (shapeCast S96x1 (multiReduction .add [1] S96 z 0x00000000#32 reduces_S96x8192_S96 (.inl rfl) rfl)
    shapeCasts_S96_S96x1) (broadcast S96x1 (Scalar.ofBits .f32 0x46000000#32))

/-- Each row's scale: the reciprocal of its deviation times `g`. -/
def scale (z : FVec F S96x8192 .f32) (g : FVec F S96x1 .f32) : FVec F S96x1 .f32 :=
  mulf (rsqrt (addf (subf (mean (mulf z z)) (mulf (mean z) (mean z)))
    (broadcast S96x1 (Scalar.ofBits .f32 0x3727C5AC#32)))) (shapeCast S96x1 g shapeCasts_S96x1_S96x1)

/-- The first normalisation and its cut at zero. -/
def norm1 (z : FVec F S96x8192 .f32) (g beta : FVec F S96x1 .f32) : FVec F S96x8192 .f32 :=
  maximumf (addf (mulf (subf z (broadcastTo S96x8192 (mean z) broadcasts_S96x1_S96x8192))
      (broadcastTo S96x8192 (scale z g) broadcasts_S96x1_S96x8192))
    (broadcastTo S96x8192 (shapeCast S96x1 beta shapeCasts_S96x1_S96x1) broadcasts_S96x1_S96x8192))
    (broadcast S96x8192 (Scalar.ofBits .f32 0x00000000#32))

/-- The last convolution. -/
def z2 (w : FVec F S96x96 .f32) (b : FVec F S96x1 .f32) (y : FVec F S96x8192 .f32) : FVec F S96x8192 .f32 :=
  addf (matmul dot_S96x96_S96x8192_S96x8192_1_0_0_1_n_n none w y (constant S96x8192 .f32 0x00000000#32))
    (broadcastTo S96x8192 (shapeCast S96x1 b shapeCasts_S96x1_S96x1) broadcasts_S96x1_S96x8192)

/-- The second normalisation's shift. -/
def shift (z : FVec F S96x8192 .f32) (g beta : FVec F S96x1 .f32) : FVec F S96x1 .f32 :=
  subf (shapeCast S96x1 beta shapeCasts_S96x1_S96x1) (mulf (mean z) (scale z g))

/-- One batch element's columns fit. -/
theorem cols_fit (b : ℕ) (h : b < 8) : S96x8192.Slices ![0, 1024 * b] S96x1024 := by
  refine ⟨rfl, fun a => ?_⟩
  match a with
  | ⟨0, _⟩ => exact le_refl 96
  | ⟨1, _⟩ => exact (by omega : 1024 * b + 1024 ≤ 8192)

/-- The block of the result that batch element `b` writes, from the scratch array `z` of the first two convolutions. -/
def out (z : FVec F S96x8192 .f32) (wg2 : FVec F S96x96 .f32) (bg2 g1 beta1 g2 beta2 : FVec F S96x1 .f32) (b : ℕ)
    (h : b < 8) : FVec F S1x96x1024 .f32 :=
  let u := z2 wg2 bg2 (norm1 z g1 beta1)
  shapeCast S1x96x1024
    (maximumf (addf (mulf (extractStridedSlice S96x1024 ![0, 1024 * b] u (cols_fit b h))
        (broadcastTo S96x1024 (scale u g2) broadcasts_S96x1_S96x1024))
      (broadcastTo S96x1024 (shift u g2 beta2) broadcasts_S96x1_S96x1024))
      (broadcast S96x1024 (Scalar.ofBits .f32 0x00000000#32))) shapeCasts_S96x1024_S1x96x1024

end Cert.KernelIdeal.Body

end
-- ==== Proof.Tiles.lean ====
/- The eight pieces of the scratch array and of the result, read back; and the loads of the body. -/
module

public import proofs.«01_k».proof.Proof.Gen.KernelIdeal
public import Idealize.ShloMosaic.Lib.Pointwise.Index
public import Idealize.ShloMosaic.Lib.VecWindow
public import Idealize.ShloMosaic.Lib.Pipeline.ValueKit.Tiles
public import Idealize.ShloMosaic.Lib.Pipeline.Frame

@[expose] public section

set_option maxRecDepth 16384

noncomputable section

namespace Cert.KernelIdeal.Run

open Cert.KernelIdeal Cert.KernelIdeal.Gen Idealize.ShloMosaic Idealize.SL.Sem

variable {F : FTy → Type} [FloatOps F] [Named F]

/-- The whole of a two-axis array is inside it. -/
theorem whole_fits (m n : ℕ) (a : Fin 2) : (![0, 0] : Fin 2 → ℕ) a + (⟨2, ![m, n]⟩ : Shape).size a
    ≤ (⟨2, ![m, n]⟩ : Shape).size a := by
  match a with
  | ⟨0, _⟩ => exact (Nat.zero_add m).le
  | ⟨1, _⟩ => exact (Nat.zero_add n).le

/-- One batch element's rows are inside the array. -/
theorem batch_fits (b : ℕ) (h : b < 8) (a : Fin 3) : (![b, 0, 0] : Fin 3 → ℕ) a + S1x96x1024.size a ≤ S8x96x1024.size a := by
  match a with
  | ⟨0, _⟩ => exact h
  | ⟨1, _⟩ => exact le_refl 96
  | ⟨2, _⟩ => exact le_refl 1024

/-- One batch element's columns are inside the scratch array. -/
theorem cols_fit (b : ℕ) (h : b < 8) (a : Fin 2) : (![0, 1024 * b] : Fin 2 → ℕ) a + S96x1024.size a ≤ S96x8192.size a := by
  match a with
  | ⟨0, _⟩ => exact le_refl 96
  | ⟨1, _⟩ => exact (by omega : 1024 * b + 1024 ≤ 8192)

/-- The load of a whole two-axis argument. -/
def load {m n : ℕ} (arg : Memref sig .tc .vmem ⟨2, ![m, n]⟩ .f32) (harg : arg.IsWhole) (x : Vec F ⟨2, ![m, n]⟩ .f32) :
    Vec F ⟨2, ![m, n]⟩ .f32 :=
  View.readAt (Elt F) arg.view (Rect.unit (s := ⟨2, ![m, n]⟩) ![0, 0] (⟨2, ![m, n]⟩ : Shape).size (whole_fits m n)).toLoadRect
    (harg.unread x)

/-- The load of one batch element. -/
def batch (arg : Memref sig .tc .vmem S8x96x1024 .f32) (harg : arg.IsWhole) (x : Vec F S8x96x1024 .f32) (b : ℕ) (h : b < 8) :
    Vec F S1x96x1024 .f32 :=
  View.readAt (Elt F) arg.view (Rect.unit (s := S8x96x1024) ![b, 0, 0] S1x96x1024.size (batch_fits b h)).toLoadRect
    (harg.unread x)

/-- The piece of the scratch array that batch element `b` writes. -/
def piece (t : Fin 8 → FVec F S96x1024 .f32) (b : ℕ) (h : b < 8) : View.Piece (Elt F) S96x8192 .f32 :=
  ⟨Rect.unit (s := S96x8192) ![0, 1024 * b] S96x1024.size (cols_fit b h), t ⟨b, h⟩⟩

/-- The piece of the result that batch element `b` writes. -/
def outPiece (t : Fin 8 → FVec F S1x96x1024 .f32) (b : ℕ) (h : b < 8) : View.Piece (Elt F) S8x96x1024 .f32 :=
  ⟨Rect.unit (s := S8x96x1024) ![b, 0, 0] S1x96x1024.size (batch_fits b h), t ⟨b, h⟩⟩

/-- The eight pieces of the scratch array, the last one first. -/
def pieces (t : Fin 8 → FVec F S96x1024 .f32) : List (View.Piece (Elt F) S96x8192 .f32) :=
  List.ofFn fun k : Fin 8 => piece t k.rev.val k.rev.isLt

/-- The eight pieces of the result, the last one first. -/
def outPieces (t : Fin 8 → FVec F S1x96x1024 .f32) : List (View.Piece (Elt F) S8x96x1024 .f32) :=
  List.ofFn fun k : Fin 8 => outPiece t k.rev.val k.rev.isLt

/-- The batch element of a column of the scratch array, and the position in it. -/
def batchOf (j : Fin 8192) : Fin 8 := ⟨j.val / 1024, by omega⟩
/-- … and its position in the batch element. -/
def posOf (j : Fin 8192) : Fin 1024 := ⟨j.val % 1024, by omega⟩

/-- The column `j` of the scratch array belongs to batch element `b` when it is in `b`'s piece. -/
theorem batchOf_eq {b : Fin 8} {j : Fin 8192} {n : ℕ} (hn : n < 1024) (h : j.val = 1024 * b.val + n) : b = batchOf j :=
  Fin.ext (by show b.val = j.val / 1024; omega)

/-- … at that position. -/
theorem posOf_eq {b : Fin 8} {j : Fin 8192} {n : Fin 1024} (h : j.val = 1024 * b.val + n.val) : n = posOf j :=
  Fin.ext (by show n.val = j.val % 1024; omega)

/-- A column lies within its batch element's 1024. -/
theorem batchOf_le (j : Fin 8192) : 1024 * (batchOf j).val ≤ j.val ∧ j.val < 1024 * (batchOf j).val + 1024 := by
  show 1024 * (j.val / 1024) ≤ j.val ∧ j.val < 1024 * (j.val / 1024) + 1024
  omega

/-- Bounds of a rectangle that starts at nought, -/
theorem zero_le_lt {m n : ℕ} (h : m < n) : 0 ≤ m ∧ m < 0 + n := ⟨Nat.zero_le _, by omega⟩
/-- and places in it. -/
theorem of_zero_add {m n : ℕ} (h : m = 0 + n) : n = m := by omega

/-- The array that the eight pieces of the scratch array make up. -/
theorem canon_pieces (t : Fin 8 → FVec F S96x1024 .f32) (r : Fin 96) (j : Fin 8192) :
    View.canon (pieces t) (ix2 r j) = t (batchOf j) (ix2 r (posOf j)) := by
  unfold pieces piece
  refine View.canon_ofFn_unit_eq_of_forall (Val := Elt F) (e := .f32) (S := S96x8192) (fun k : Fin 8 => ![0, 1024 * k.rev.val]) S96x1024.size
    (fun k => cols_fit k.rev.val k.rev.isLt) (fun k => t k.rev) (ix2 r j) _ ⟨(batchOf j).rev, fun a => ?_⟩ fun k x hx => ?_
  · match a with
    | ⟨0, _⟩ => exact zero_le_lt r.isLt
    | ⟨1, _⟩ =>
      show 1024 * (batchOf j).rev.rev.val ≤ j.val ∧ j.val < 1024 * (batchOf j).rev.rev.val + 1024
      rw [Fin.rev_rev]; exact batchOf_le j
  · have h0 : r.val = 0 + (x 0).val := hx 0
    have h1 : j.val = 1024 * k.rev.val + (x 1).val := hx 1
    have ek : k.rev = batchOf j := batchOf_eq (x 1).isLt h1
    have ex : x = ix2 r (posOf j) := by
      funext a
      match a with
      | ⟨0, _⟩ => exact Fin.ext (of_zero_add h0)
      | ⟨1, _⟩ => exact posOf_eq h1
    show t k.rev x = _
    rw [ek, ex]

/-- The array that the eight pieces of the result make up. -/
theorem canon_outPieces (t : Fin 8 → FVec F S1x96x1024 .f32) (b : Fin 8) (r : Fin 96) (n : Fin 1024) :
    View.canon (outPieces t) (ix3 b r n) = t b (ix3 0 r n) := by
  unfold outPieces outPiece
  refine View.canon_ofFn_unit_eq_of_forall (Val := Elt F) (e := .f32) (S := S8x96x1024) (fun k : Fin 8 => ![k.rev.val, 0, 0]) S1x96x1024.size
    (fun k => batch_fits k.rev.val k.rev.isLt) (fun k => t k.rev) (ix3 b r n) _ ⟨b.rev, fun a => ?_⟩ fun k x hx => ?_
  · match a with
    | ⟨0, _⟩ =>
      show b.rev.rev.val ≤ b.val ∧ b.val < b.rev.rev.val + 1
      rw [Fin.rev_rev]; omega
    | ⟨1, _⟩ => exact zero_le_lt r.isLt
    | ⟨2, _⟩ => exact zero_le_lt n.isLt
  · have h0 : b.val = k.rev.val + (x 0).val := hx 0
    have h1 : r.val = 0 + (x 1).val := hx 1
    have h2 : n.val = 0 + (x 2).val := hx 2
    have hx0 : (x 0).val < 1 := (x 0).isLt
    have ek : k.rev = b := Fin.ext (by omega)
    have ex : x = ix3 0 r n := by
      funext a
      match a with
      | ⟨0, _⟩ => exact Fin.ext (Nat.lt_one_iff.1 hx0)
      | ⟨1, _⟩ => exact Fin.ext (of_zero_add h1)
      | ⟨2, _⟩ => exact Fin.ext (of_zero_add h2)
    show t k.rev x = _
    rw [ek, ex]

/-- The load of a whole argument is the argument. -/
theorem load_eq {m n : ℕ} (arg : Memref sig .tc .vmem ⟨2, ![m, n]⟩ .f32) (harg : arg.IsWhole)
    (x : Vec F ⟨2, ![m, n]⟩ .f32) : load arg harg x = x :=
  (View.readAt_full arg.view (harg.unread x) (whole_fits m n)).trans (harg.read_unread x)

/-- One batch element of the argument. -/
def slab (x : Vec F S8x96x1024 .f32) (b : Fin 8) : Vec F S1x96x1024 .f32 := fun i => x (ix3 b (i 1) (i 2))

/-- The load of one batch element is that batch element. -/
theorem batch_eq (arg : Memref sig .tc .vmem S8x96x1024 .f32) (harg : arg.IsWhole) (x : Vec F S8x96x1024 .f32) (b : Fin 8) :
    batch arg harg x b.val b.isLt = slab x b := by
  funext i
  show arg.view.read (Elt F) (harg.unread x) ((Rect.unit (s := S8x96x1024) ![b.val, 0, 0] S1x96x1024.size
    (batch_fits b.val b.isLt)).emb i) = _
  rw [harg.read_unread]
  refine congrArg x (funext fun a => Fin.ext ?_)
  have h0 : (i 0).val < 1 := (i 0).isLt
  match a with
  | ⟨0, _⟩ => show b.val + 1 * (i 0).val = b.val; omega
  | ⟨1, _⟩ => show 0 + 1 * (i 1).val = (i 1).val; omega
  | ⟨2, _⟩ => show 0 + 1 * (i 2).val = (i 2).val; omega

end Cert.KernelIdeal.Run

end
-- ==== Proof.Run.lean ====
/- The pieces the body's stores leave in the result are `Body.out` at the eight batch elements, of the scratch array
   that holds `Body.z1` at the eight batch elements. -/
module

public import proofs.«01_k».proof.Proof.Gen.KernelIdeal.Frame
public import proofs.«01_k».proof.Proof.Body
public import Idealize.ShloMosaic.Lib.Tactic
public import proofs.«01_k».proof.Proof.Tiles

@[expose] public section

set_option maxRecDepth 16384

noncomputable section

namespace Cert.KernelIdeal.Run

open Cert.KernelIdeal Cert.KernelIdeal.Gen Idealize.ShloMosaic Idealize.SL.Sem

variable {F : FTy → Type} [FloatOps F] [Named F]

variable (c : Dev nD)
  (arg0 : Memref sig .tc .vmem S8x96x1024 .f32) (harg0 : arg0.IsWhole)
  (arg1 : Memref sig .tc .vmem S1152x96 .f32) (harg1 : arg1.IsWhole)
  (arg2 : Memref sig .tc .vmem S1152x1 .f32) (harg2 : arg2.IsWhole)
  (arg3 : Memref sig .tc .vmem S96x384 .f32) (harg3 : arg3.IsWhole)
  (arg4 : Memref sig .tc .vmem S96x1 .f32) (harg4 : arg4.IsWhole)
  (arg5 : Memref sig .tc .vmem S96x96 .f32) (harg5 : arg5.IsWhole)
  (arg6 : Memref sig .tc .vmem S96x1 .f32) (harg6 : arg6.IsWhole)
  (arg7 : Memref sig .tc .vmem S96x96 .f32) (harg7 : arg7.IsWhole)
  (arg8 : Memref sig .tc .vmem S96x1 .f32) (harg8 : arg8.IsWhole)
  (arg9 : Memref sig .tc .vmem S96x1 .f32) (harg9 : arg9.IsWhole)
  (arg10 : Memref sig .tc .vmem S96x1 .f32) (harg10 : arg10.IsWhole)
  (arg11 : Memref sig .tc .vmem S96x1 .f32) (harg11 : arg11.IsWhole)
  (arg12 : Memref sig .tc .vmem S96x1 .f32) (harg12 : arg12.IsWhole)
  (arg13 : Memref sig .tc .vmem S8x96x1024 .f32) (harg13 : arg13.IsWhole)
  (arg14 : Memref sig .tc .vmem S96x8192 .f32) (harg14 : arg14.IsWhole)
  (x0 : Vec F S8x96x1024 .f32) (x1 : Vec F S1152x96 .f32) (x2 : Vec F S1152x1 .f32) (x3 : Vec F S96x384 .f32)
  (x4 : Vec F S96x1 .f32) (x5 : Vec F S96x96 .f32) (x6 : Vec F S96x1 .f32) (x7 : Vec F S96x96 .f32)
  (x8 : Vec F S96x1 .f32) (x9 : Vec F S96x1 .f32) (x10 : Vec F S96x1 .f32) (x11 : Vec F S96x1 .f32)
  (x12 : Vec F S96x1 .f32)

/-- What the eight batch elements write into the scratch array. -/
def blocks (b : Fin 8) : FVec F S96x1024 .f32 :=
  Body.z1 (load arg1 harg1 x1) (load arg2 harg2 x2) (load arg3 harg3 x3) (load arg4 harg4 x4) (load arg5 harg5 x5)
    (load arg6 harg6 x6) (batch arg0 harg0 x0 b.val b.isLt)

set_option maxHeartbeats 4000000 in
/-- The scratch array's pieces are `Body.z1` at the eight batch elements. -/
theorem scratch_pieces :
    (kernelRun0_A c arg0 harg0 arg1 harg1 arg2 harg2 arg3 harg3 arg4 harg4 arg5 harg5 arg6 harg6 arg7 harg7 arg8 harg8
      arg9 harg9 arg10 harg10 arg11 harg11 arg12 harg12 arg13 harg13 arg14 harg14 x0 x1 x2 x3 x4 x5 x6 x7 x8 x9 x10 x11
      x12).2.1 = pieces (blocks arg0 harg0 arg1 harg1 arg2 harg2 arg3 harg3 arg4 harg4 arg5 harg5 arg6 harg6 x0 x1 x2 x3 x4
        x5 x6) := by
  sl_kernel_rfl

set_option maxHeartbeats 4000000 in
/-- The result's pieces are `Body.out` at the eight batch elements. -/
theorem result_pieces :
    (kernelRun0_A c arg0 harg0 arg1 harg1 arg2 harg2 arg3 harg3 arg4 harg4 arg5 harg5 arg6 harg6 arg7 harg7 arg8 harg8
      arg9 harg9 arg10 harg10 arg11 harg11 arg12 harg12 arg13 harg13 arg14 harg14 x0 x1 x2 x3 x4 x5 x6 x7 x8 x9 x10 x11
      x12).1 = outPieces fun b => Body.out
        (arg14.view.readCov (pieces (blocks arg0 harg0 arg1 harg1 arg2 harg2 arg3 harg3 arg4 harg4 arg5 harg5 arg6 harg6 x0 x1
          x2 x3 x4 x5 x6)) (Rect.unit (s := S96x8192) ![0, 0] S96x8192.size (whole_fits 96 8192)).toLoadRect)
        (load arg7 harg7 x7) (load arg8 harg8 x8) (load arg9 harg9 x9) (load arg10 harg10 x10) (load arg11 harg11 x11)
        (load arg12 harg12 x12) b.val b.isLt := by
  sl_kernel_rfl

/-- The scratch array: the first two convolutions at every batch element and position. -/
def scratch : FVec F S96x8192 .f32 := fun i => Body.z1 x1 x2 x3 x4 x5 x6 (slab x0 (batchOf (i 1))) (ix2 (i 0) (posOf (i 1)))

/-- The result as a function of the kernel's thirteen arguments. -/
def result : FVec F S8x96x1024 .f32 := fun i =>
  Body.out (scratch x0 x1 x2 x3 x4 x5 x6) x7 x8 x9 x10 x11 x12 (i 0).val (i 0).isLt (ix3 0 (i 1) (i 2))

/-- THE BODY: what the body leaves in the result. -/
theorem out_eq :
    out0_A_13 c arg0 harg0 arg1 harg1 arg2 harg2 arg3 harg3 arg4 harg4 arg5 harg5 arg6 harg6 arg7 harg7 arg8 harg8
      arg9 harg9 arg10 harg10 arg11 harg11 arg12 harg12 arg13 harg13 arg14 harg14 x0 x1 x2 x3 x4 x5 x6 x7 x8 x9 x10 x11
      x12 = result x0 x1 x2 x3 x4 x5 x6 x7 x8 x9 x10 x11 x12 := by
  unfold out0_A_13
  rw [View.read_writes_junk_eq_canon, result_pieces]
  have hb : blocks arg0 harg0 arg1 harg1 arg2 harg2 arg3 harg3 arg4 harg4 arg5 harg5 arg6 harg6 x0 x1 x2 x3 x4 x5 x6
      = fun b => Body.z1 x1 x2 x3 x4 x5 x6 (slab x0 b) := by
    funext b
    unfold blocks
    rw [load_eq arg1, load_eq arg2, load_eq arg3, load_eq arg4, load_eq arg5, load_eq arg6, batch_eq]
  have hz : arg14.view.readCov (pieces (blocks arg0 harg0 arg1 harg1 arg2 harg2 arg3 harg3 arg4 harg4 arg5 harg5 arg6 harg6
      x0 x1 x2 x3 x4 x5 x6)) (Rect.unit (s := S96x8192) ![0, 0] S96x8192.size (whole_fits 96 8192)).toLoadRect
      = scratch x0 x1 x2 x3 x4 x5 x6 := by
    rw [hb, View.readCov_eq_canon']
    funext j
    refine (congrArg (View.canon (pieces _)) ((Rect.emb_unit_full (s := S96x8192) (off := ![0, 0]) (whole_fits 96 8192)
      j).trans (eq_ix2 j))).trans ?_
    exact canon_pieces _ (j 0) (j 1)
  rw [hz, load_eq arg7, load_eq arg8, load_eq arg9, load_eq arg10, load_eq arg11, load_eq arg12]
  funext i
  exact (congrArg (View.canon (outPieces _)) (eq_ix3 i)).trans (canon_outPieces _ (i 0) (i 1) (i 2))

end Cert.KernelIdeal.Run

end
-- ==== Proof.Array.lean ====
/- The kernel's result array as a function of its arguments. -/
module

public import proofs.«01_k».proof.Proof.Gen.KernelIdeal.Value
public import proofs.«01_k».proof.Proof.Run

@[expose] public section

set_option maxRecDepth 16384

noncomputable section

namespace Cert.KernelIdeal.Array

open Cert.KernelIdeal Cert.KernelIdeal.Gen Idealize.ShloMosaic Idealize.ShloMosaic.TcCoe Idealize.SL.Sem

variable {F : FTy → Type} [FloatOps F] [Named F]

section Host
variable (x : FVec F S8x96x32x32 .f32) (wk wq wv : FVec F S384x96 .f32) (bk bq bv : FVec F S384 .f32) (v : FVec F S96 .f32)

/-- The host's operations on the arguments: the positions in one axis, -/
def flat : FVec F S8x96x1024 .f32 := shapeCast S8x96x1024 x shapeCasts_S8x96x32x32_S8x96x1024
/-- the three matrices and the three biases one under the other, -/
def mats : FVec F S1152x96 .f32 := concatenate S1152x96 0 [⟨S384x96, wk⟩, ⟨S384x96, wv⟩, ⟨S384x96, wq⟩]
  concatenates_S384x96_S384x96_S384x96_S1152x96_d0
/-- … and the three biases, as a column, -/
def biases : FVec F S1152x1 .f32 := shapeCast S1152x1 (concatenate S1152 0 [⟨S384, bk⟩, ⟨S384, bv⟩, ⟨S384, bq⟩]
  concatenates_S384_S384_S384_S1152_d0) shapeCasts_S1152_S1152x1
/-- and a row as a column. -/
def col : FVec F S96x1 .f32 := shapeCast S96x1 v shapeCasts_S96_S96x1
end Host

variable (m : (ℓ : Loc nD τ sig) → Buf (Elt F) ℓ) (c : Dev nD)

/-- The kernel's operands when it is entered: what the host's operations make of the arguments. -/
theorem operands :
    V m c main_call0_v0 = flat (m ((c : Thread nD τ).loc main_arg0))
    ∧ V m c main_call0_v1 = mats (m ((c : Thread nD τ).loc main_arg1)) (m ((c : Thread nD τ).loc main_arg3))
        (m ((c : Thread nD τ).loc main_arg5))
    ∧ V m c main_call0_v3 = biases (m ((c : Thread nD τ).loc main_arg2)) (m ((c : Thread nD τ).loc main_arg4))
        (m ((c : Thread nD τ).loc main_arg6))
    ∧ V m c main_call0_v4 = col (m ((c : Thread nD τ).loc main_arg8))
    ∧ V m c main_call0_v5 = col (m ((c : Thread nD τ).loc main_arg10))
    ∧ V m c main_call0_v6 = col (m ((c : Thread nD τ).loc main_arg12))
    ∧ V m c main_call0_v7 = col (m ((c : Thread nD τ).loc main_arg13))
    ∧ V m c main_call0_v8 = col (m ((c : Thread nD τ).loc main_arg14))
    ∧ V m c main_call0_v9 = col (m ((c : Thread nD τ).loc main_arg15))
    ∧ V m c main_call0_v10 = col (m ((c : Thread nD τ).loc main_arg16)) := by
  refine ⟨?_, ?_, ?_, ?_, ?_, ?_, ?_, ?_, ?_, ?_⟩ <;>
    (show StableHlo.after hostOps0 _ (Proc.devRef .tc _) = _; after_results; rfl)

/-- Every operand's one block is the whole operand. -/
theorem blocks (t : Fin cfg0.N) :
    iblk m c 0 t = V m c main_call0_v0 ∧ iblk m c 1 t = V m c main_call0_v1 ∧ iblk m c 2 t = V m c main_call0_v3
    ∧ iblk m c 3 t = V m c main_arg7 ∧ iblk m c 4 t = V m c main_call0_v4 ∧ iblk m c 5 t = V m c main_arg9
    ∧ iblk m c 6 t = V m c main_call0_v5 ∧ iblk m c 7 t = V m c main_arg11 ∧ iblk m c 8 t = V m c main_call0_v6
    ∧ iblk m c 9 t = V m c main_call0_v7 ∧ iblk m c 10 t = V m c main_call0_v8 ∧ iblk m c 11 t = V m c main_call0_v9
    ∧ iblk m c 12 t = V m c main_call0_v10 := by
  refine ⟨?_, ?_, ?_, ?_, ?_, ?_, ?_, ?_, ?_, ?_, ?_, ?_, ?_⟩ <;>
    exact Memref.read_access_unit_zero (Elt F) _ (funext fun _ => Nat.zero_mul _) _ _

/-- The result's one block is the whole array too. -/
theorem read_out (t : Fin cfg0.N) (f : Buf (Elt F) ((c : Thread nD τ).loc main_v0)) :
    (win0_13.blk t).view.read (Elt F) f = f :=
  Memref.read_access_unit_zero (Elt F) main_v0 (funext fun _ => Nat.zero_mul _) _ _

/-- The kernel's result array. -/
def result : FVec F S8x96x1024 .f32 :=
  Run.result (flat (m ((c : Thread nD τ).loc main_arg0))) (mats (m ((c : Thread nD τ).loc main_arg1)) (m ((c : Thread nD τ).loc main_arg3))
      (m ((c : Thread nD τ).loc main_arg5)))
    (biases (m ((c : Thread nD τ).loc main_arg2)) (m ((c : Thread nD τ).loc main_arg4)) (m ((c : Thread nD τ).loc main_arg6)))
    (m ((c : Thread nD τ).loc main_arg7)) (col (m ((c : Thread nD τ).loc main_arg8))) (m ((c : Thread nD τ).loc main_arg9))
    (col (m ((c : Thread nD τ).loc main_arg10))) (m ((c : Thread nD τ).loc main_arg11)) (col (m ((c : Thread nD τ).loc main_arg12)))
    (col (m ((c : Thread nD τ).loc main_arg13))) (col (m ((c : Thread nD τ).loc main_arg14))) (col (m ((c : Thread nD τ).loc main_arg15)))
    (col (m ((c : Thread nD τ).loc main_arg16)))

/-- The array the kernel leaves in its result is `result`. -/
theorem array_eq : (dats m 0 c).arrAt 13 cfg0.N = result m c := by
  have hb := Value.blocks13 m c t0_0 (flush0_13 t0_0)
  rw [Value.flushed13_A, Run.out_eq] at hb
  refine (read_out c t0_0 _).symm.trans (hb.trans ?_)
  obtain ⟨i0, i1, i2, i3, i4, i5, i6, i7, i8, i9, i10, i11, i12⟩ := blocks m c t0_0
  obtain ⟨o0, o1, o2, o4, o5, o6, o7, o8, o9, o10⟩ := operands m c
  rw [i0, i1, i2, i3, i4, i5, i6, i7, i8, i9, i10, i11, i12, o0, o1, o2, o4, o5, o6, o7, o8, o9, o10, V_main_arg7,
    V_main_arg9, V_main_arg11]
  rfl

end Cert.KernelIdeal.Array

end
-- ==== Proof.Entries.lean ====
/- The body's functions at an index, over the extended reals. -/
module

public import proofs.«01_k».proof.Proof.Body
public import Idealize.ShloMosaic.Lib.Pointwise

@[expose] public section

set_option maxRecDepth 16384

noncomputable section

namespace Cert.KernelIdeal.Entries

open Cert.KernelIdeal Cert.KernelIdeal.Gen Idealize.ShloMosaic

/-- A column made a unit vector: each entry over its length, or over the least length. -/
theorem unitCols (t : FVec Ideal S96x1024 .f32) (r : Fin 96) (n : Fin 1024) :
    Body.unitCols t (ix2 r n) = Ideal.div (t (ix2 r n))
      (max (Ideal.sqrt (∑ k : Fin 96, t (ix2 k n) * t (ix2 k n))) (Ideal.ofBits .f32 0x2B8CBCCC#32)) := by
  pointwise [Body.unitCols]

/-- The three convolutions: a row of the weights times a column, and a bias. -/
theorem kvq (w : FVec Ideal S1152x96 .f32) (b : FVec Ideal S1152x1 .f32) (x : FVec Ideal S96x1024 .f32) (o : Fin 1152)
    (n : Fin 1024) : Body.kvq w b x (ix2 o n) = (∑ k : Fin 96, w (ix2 o k) * x (ix2 k n)) + b (ix2 o 0) := by
  pointwise [Body.kvq]

/-- The similarity of two vertices: the product of their unit columns. -/
theorem sim (x : FVec Ideal S96x1024 .f32) (m n : Fin 1024) :
    Body.sim x (ix2 m n) = ∑ k : Fin 96, Body.unitCols x (ix2 k m) * Body.unitCols x (ix2 k n) := by
  pointwise [Body.sim]

/-- The graph applied: the sum over the vertices the adjacency marks, and the vertex itself. -/
theorem lap (kv : FVec Ideal S768x1024 .f32) (a : FVec Ideal S1024x1024 .f32) (f : Fin 768) (n : Fin 1024) :
    Body.lap kv a (ix2 f n) = (∑ k : Fin 1024, kv (ix2 f k) * a (ix2 k n)) + kv (ix2 f n) := by
  pointwise [Body.lap]

/-- The adjacency is one where the similarity reaches the column's threshold, and nought elsewhere. -/
theorem adj (s : FVec Ideal S1024x1024 .f32) (m n : Fin 1024) :
    Body.adj s (ix2 m n) = if Body.thr s (ix2 0 n) ≤ s (ix2 m n) then 1 else 0 := by
  pointwise [Body.adj]

/-- The key-value product: the sum over the positions, over thirty-six. -/
theorem kvSum (l : FVec Ideal S768x1024 .f32) (f : Fin 384) :
    Body.kvSum l (ix2 f 0) = (∑ n : Fin 1024, l (ix2 ⟨f.val, by omega⟩ n) * l (ix2 ⟨384 + f.val, by omega⟩ n))
      * ((1 / 36 : ℝ) : EReal) := by
  pointwise [Body.kvSum]
  rw [IdealRules.named_const.ideal_named_scalar _ _ _ _ rfl]

/-- The projection and the first convolution as one matrix. -/
theorem wpg (a : FVec Ideal S96x96 .f32) (b : FVec Ideal S96x384 .f32) (o : Fin 96) (f : Fin 384) :
    Body.wpg a b (ix2 o f) = ∑ k : Fin 96, a (ix2 o k) * b (ix2 k f) := by
  pointwise [Body.wpg]

/-- … and their biases as one. -/
theorem bpg (a : FVec Ideal S96x96 .f32) (b c : FVec Ideal S96x1 .f32) (o : Fin 96) :
    Body.bpg a b c (ix2 o 0) = (∑ k : Fin 96, a (ix2 o k) * b (ix2 k 0)) + c (ix2 o 0) := by
  pointwise [Body.bpg]

/-- The mean of a channel. -/
theorem mean (z : FVec Ideal S96x8192 .f32) (o : Fin 96) :
    Body.mean z (ix2 o 0) = Ideal.div (∑ j : Fin 8192, z (ix2 o j)) (Ideal.ofBits .f32 0x46000000#32) := by
  pointwise [Body.mean]

/-- What a channel is multiplied by: from the mean of its squares less the square of its mean. -/
theorem scale (z : FVec Ideal S96x8192 .f32) (g : FVec Ideal S96x1 .f32) (o : Fin 96) :
    Body.scale z g (ix2 o 0) = Ideal.rsqrt (Body.mean (mulf z z) (ix2 o 0) - Body.mean z (ix2 o 0) * Body.mean z (ix2 o 0)
      + Ideal.ofBits .f32 0x3727C5AC#32) * g (ix2 o 0) := by
  pointwise [Body.scale]

/-- The first normalisation, cut at zero. -/
theorem norm1 (z : FVec Ideal S96x8192 .f32) (g beta : FVec Ideal S96x1 .f32) (o : Fin 96) (j : Fin 8192) :
    Body.norm1 z g beta (ix2 o j) = max ((z (ix2 o j) - Body.mean z (ix2 o 0)) * Body.scale z g (ix2 o 0) + beta (ix2 o 0)) 0 := by
  pointwise [Body.norm1]

/-- The second convolution. -/
theorem z2 (w : FVec Ideal S96x96 .f32) (b : FVec Ideal S96x1 .f32) (y : FVec Ideal S96x8192 .f32) (o : Fin 96)
    (j : Fin 8192) : Body.z2 w b y (ix2 o j) = (∑ k : Fin 96, w (ix2 o k) * y (ix2 k j)) + b (ix2 o 0) := by
  pointwise [Body.z2]

/-- What the second normalisation adds. -/
theorem shift (z : FVec Ideal S96x8192 .f32) (g beta : FVec Ideal S96x1 .f32) (o : Fin 96) :
    Body.shift z g beta (ix2 o 0) = beta (ix2 o 0) - Body.mean z (ix2 o 0) * Body.scale z g (ix2 o 0) := by
  pointwise [Body.shift]

/-- Row `k` of the head that row `f` belongs to. -/
def mate (f : Fin 384) (k : Fin 96) : Fin 384 := ⟨96 * (f.val / 96) + k.val, by omega⟩

/-- The queries: the last 384 rows, each head a unit vector. -/
theorem queries (u : FVec Ideal S1152x1024 .f32) (f : Fin 384) (n : Fin 1024) :
    Body.queries u (ix2 f n) = Ideal.div (u (ix2 ⟨768 + f.val, by omega⟩ n))
      (max (Ideal.sqrt (∑ k : Fin 96, u (ix2 ⟨768 + (mate f k).val, by omega⟩ n)
        * u (ix2 ⟨768 + (mate f k).val, by omega⟩ n))) (Ideal.ofBits .f32 0x2B8CBCCC#32)) := by
  pointwise [Body.queries]
  unfold mate
  by_cases h0 : f.val < 96
  · refine (dif_pos h0).trans ?_
    pointwise [Body.head0, unitCols]
    simp only [show f.val / 96 = 0 by omega]
    pointwise
  refine (dif_neg h0).trans ?_
  by_cases h1 : f.val - 96 < 96
  · refine (dif_pos h1).trans ?_
    pointwise [Body.head1, unitCols]
    simp only [show f.val / 96 = 1 by omega, show 96 + (f.val - 96) = f.val by omega]
  refine (dif_neg h1).trans ?_
  by_cases h2 : f.val - 96 - 96 < 96
  · refine (dif_pos h2).trans ?_
    pointwise [Body.head2, unitCols]
    simp only [show f.val / 96 = 2 by omega, show 192 + (f.val - 96 - 96) = f.val by omega]
  · refine (dif_neg h2).trans ?_
    pointwise [Body.head3, unitCols]
    simp only [show f.val / 96 = 3 by omega, show 288 + (f.val - 96 - 96 - 96) = f.val by omega]

/-- The keys: the first 384 rows, each head a unit vector. -/
theorem keys (u : FVec Ideal S1152x1024 .f32) (f : Fin 384) (n : Fin 1024) :
    Body.keysVals u (ix2 ⟨f.val, by omega⟩ n) = Ideal.div (u (ix2 ⟨f.val, by omega⟩ n))
      (max (Ideal.sqrt (∑ k : Fin 96, u (ix2 ⟨(mate f k).val, by omega⟩ n)
        * u (ix2 ⟨(mate f k).val, by omega⟩ n))) (Ideal.ofBits .f32 0x2B8CBCCC#32)) := by
  pointwise [Body.keysVals]
  unfold mate
  by_cases h0 : f.val < 96
  · refine (dif_pos h0).trans ?_
    pointwise [Body.head0, unitCols]
    simp only [show f.val / 96 = 0 by omega]
    pointwise
  refine (dif_neg h0).trans ?_
  by_cases h1 : f.val - 96 < 96
  · refine (dif_pos h1).trans ?_
    pointwise [Body.head1, unitCols]
    simp only [show f.val / 96 = 1 by omega, show 96 + (f.val - 96) = f.val by omega]
  refine (dif_neg h1).trans ?_
  by_cases h2 : f.val - 96 - 96 < 96
  · refine (dif_pos h2).trans ?_
    pointwise [Body.head2, unitCols]
    simp only [show f.val / 96 = 2 by omega, show 192 + (f.val - 96 - 96) = f.val by omega]
  refine (dif_neg h2).trans ?_
  refine (dif_pos (by omega)).trans ?_
  pointwise [Body.head3, unitCols]
  simp only [show f.val / 96 = 3 by omega, show 288 + (f.val - 96 - 96 - 96) = f.val by omega]

/-- The values: the middle 384 rows as they are. -/
theorem vals (u : FVec Ideal S1152x1024 .f32) (f : Fin 384) (n : Fin 1024) :
    Body.keysVals u (ix2 ⟨384 + f.val, by omega⟩ n) = u (ix2 ⟨384 + f.val, by omega⟩ n) := by
  pointwise [Body.keysVals]
  refine (dif_neg (by omega)).trans ((dif_neg (by omega)).trans ((dif_neg (by omega)).trans ((dif_neg (by omega)).trans ?_)))
  simp only [show 384 + f.val - 96 - 96 - 96 - 96 = f.val by omega]

/-- The fused convolution of the attention's output. -/
theorem z1 (w : FVec Ideal S1152x96 .f32) (b : FVec Ideal S1152x1 .f32) (wp : FVec Ideal S96x384 .f32)
    (bp : FVec Ideal S96x1 .f32) (wg1 : FVec Ideal S96x96 .f32) (bg1 : FVec Ideal S96x1 .f32)
    (xb : FVec Ideal S1x96x1024 .f32) (o : Fin 96) (n : Fin 1024) :
    Body.z1 w b wp bp wg1 bg1 xb (ix2 o n) =
      (∑ f : Fin 384, Body.wpg wg1 wp (ix2 o f) * (Body.queries (Body.kvq w b (fun i => xb (ix3 0 (i 0) (i 1)))) (ix2 f n)
        * Body.kvSum (Body.lap (Body.keysVals (Body.kvq w b (fun i => xb (ix3 0 (i 0) (i 1)))))
          (Body.adj (Body.sim (fun i => xb (ix3 0 (i 0) (i 1)))))) (ix2 f 0)))
        + Body.bpg wg1 bp bg1 (ix2 o 0) := by
  have e0 : shapeCast S96x1024 xb shapeCasts_S1x96x1024_S96x1024 = fun i => xb (ix3 0 (i 0) (i 1)) := by
    funext i; rw [eq_ix2 i]; pointwise
  pointwise [Body.z1, Body.hydra]
  rw [e0]

/-- The last normalisation of one batch element, cut at zero. -/
theorem out (z : FVec Ideal S96x8192 .f32) (wg2 : FVec Ideal S96x96 .f32) (bg2 g1 beta1 g2 beta2 : FVec Ideal S96x1 .f32)
    (b : ℕ) (h : b < 8) (o : Fin 96) (n : Fin 1024) :
    Body.out z wg2 bg2 g1 beta1 g2 beta2 b h (ix3 0 o n) =
      max (Body.z2 wg2 bg2 (Body.norm1 z g1 beta1) (ix2 o ⟨1024 * b + n.val, by omega⟩)
        * Body.scale (Body.z2 wg2 bg2 (Body.norm1 z g1 beta1)) g2 (ix2 o 0)
        + Body.shift (Body.z2 wg2 bg2 (Body.norm1 z g1 beta1)) g2 beta2 (ix2 o 0)) 0 := by
  pointwise [Body.out]

end Cert.KernelIdeal.Entries

end
-- ==== Proof.Top.lean ====
/- The five greatest numbers of a family, by an insertion network over slabs and by repeated removal of the greatest
   candidate. Nothing here mentions the programs. -/
module

public import Mathlib.Data.EReal.Operations
public import Mathlib.Order.Fin.Basic
public import Mathlib.Data.Fintype.Card
public import Mathlib.Data.Finset.Card
public import Mathlib.Data.Finset.Lattice.Fold

@[expose] public section

namespace Cert.Top

open Finset

/-- An insertion network of five running maxima over the numbers `x 0, …, x (N - 1)`. -/
structure Network (N : ℕ) (x : ℕ → EReal) where
  /-- the running maxima after the first `n` numbers -/
  t : (n : ℕ) → n ≤ N → Fin 5 → EReal
  start : ∀ h k, t 0 h k = ⊥
  step0 : ∀ n (h : n + 1 ≤ N), t (n + 1) h 0 = max (t n (Nat.le_of_succ_le h) 0) (x n)
  step1 : ∀ n (h : n + 1 ≤ N), t (n + 1) h 1 = max (t n (Nat.le_of_succ_le h) 1) (min (t n (Nat.le_of_succ_le h) 0) (x n))
  step2 : ∀ n (h : n + 1 ≤ N), t (n + 1) h 2 = max (t n (Nat.le_of_succ_le h) 2)
    (min (t n (Nat.le_of_succ_le h) 1) (min (t n (Nat.le_of_succ_le h) 0) (x n)))
  step3 : ∀ n (h : n + 1 ≤ N), t (n + 1) h 3 = max (t n (Nat.le_of_succ_le h) 3)
    (min (t n (Nat.le_of_succ_le h) 2) (min (t n (Nat.le_of_succ_le h) 1) (min (t n (Nat.le_of_succ_le h) 0) (x n))))
  step4 : ∀ n (h : n + 1 ≤ N), t (n + 1) h 4 = max (t n (Nat.le_of_succ_le h) 4)
    (min (t n (Nat.le_of_succ_le h) 3) (min (t n (Nat.le_of_succ_le h) 2)
      (min (t n (Nat.le_of_succ_le h) 1) (min (t n (Nat.le_of_succ_le h) 0) (x n)))))

variable {N : ℕ} {x : ℕ → EReal}

open Classical in
/-- How many of the first `n` numbers satisfy `p`. -/
noncomputable def cnt (x : ℕ → EReal) (p : EReal → Prop) (n : ℕ) : ℕ := ((range n).filter fun i => p (x i)).card

/-- One more number counts if it satisfies `p`. -/
theorem cnt_succ (p : EReal → Prop) (n : ℕ) : (p (x n) ∧ cnt x p (n + 1) = cnt x p n + 1)
    ∨ (¬ p (x n) ∧ cnt x p (n + 1) = cnt x p n) := by
  classical
  unfold cnt
  rw [range_add_one, filter_insert]
  by_cases h : p (x n)
  · left; rw [if_pos h, card_insert_of_notMem (by simp)]; exact ⟨h, by congr⟩
  · right; rw [if_neg h]; exact ⟨h, by congr⟩

/-- A weaker condition holds of as many of the numbers. -/
theorem cnt_le (p p' : EReal → Prop) (n : ℕ) (h : ∀ i < n, p (x i) → p' (x i)) : cnt x p n ≤ cnt x p' n := by
  classical
  unfold cnt
  refine card_le_card fun i hi => ?_
  rw [mem_filter] at hi ⊢
  exact ⟨hi.1, h i (mem_range.1 hi.1) hi.2⟩

/-- … and of more of them if it holds of one more. -/
theorem cnt_lt (p p' : EReal → Prop) (n : ℕ) (h : ∀ i < n, p (x i) → p' (x i)) (i : ℕ) (hi : i < n) (h1 : p' (x i))
    (h2 : ¬ p (x i)) : cnt x p n < cnt x p' n := by
  classical
  unfold cnt
  refine card_lt_card ⟨fun j hj => ?_, fun hsub => ?_⟩
  · rw [mem_filter] at hj ⊢; exact ⟨hj.1, h j (mem_range.1 hj.1) hj.2⟩
  · exact h2 (mem_filter.1 (hsub (mem_filter.2 ⟨mem_range.2 hi, h1⟩))).2

/-- The `k`-th running maximum satisfies an upward closed condition exactly when more than `k` of the numbers do. -/
theorem Network.iff (T : Network N x) (p : EReal → Prop) (hmax : ∀ a b, p (max a b) ↔ p a ∨ p b)
    (hmin : ∀ a b, p (min a b) ↔ p a ∧ p b) (hbot : ¬ p ⊥) (n : ℕ) (h : n ≤ N) (k : Fin 5) :
    p (T.t n h k) ↔ k.val + 1 ≤ cnt x p n := by
  induction n generalizing k with
  | zero => simp [T.start, hbot, cnt]
  | succ n ih =>
    have h' := Nat.le_of_succ_le h
    have i0 := ih h' 0; have i1 := ih h' 1; have i2 := ih h' 2; have i3 := ih h' 3; have i4 := ih h' 4
    simp only [Fin.val_zero, Fin.val_one, Fin.val_two, show ((3 : Fin 5) : ℕ) = 3 from rfl,
      show ((4 : Fin 5) : ℕ) = 4 from rfl] at i0 i1 i2 i3 i4
    match k with
    | ⟨0, _⟩ =>
      rw [show (⟨0, _⟩ : Fin 5) = 0 from rfl, T.step0, hmax, i0]
      rcases cnt_succ (x := x) p n with ⟨a, b⟩ | ⟨a, b⟩ <;> simp only [a, b] <;> simp
    | ⟨1, _⟩ =>
      rw [show (⟨1, _⟩ : Fin 5) = 1 from rfl, T.step1, hmax, hmin, i0, i1]
      rcases cnt_succ (x := x) p n with ⟨a, b⟩ | ⟨a, b⟩ <;> simp only [a, b, and_true, and_false, or_false] <;> simp <;> omega
    | ⟨2, _⟩ =>
      rw [show (⟨2, _⟩ : Fin 5) = 2 from rfl, T.step2, hmax, hmin, hmin, i0, i1, i2]
      rcases cnt_succ (x := x) p n with ⟨a, b⟩ | ⟨a, b⟩ <;> simp only [a, b, and_true, and_false, or_false] <;> simp <;> omega
    | ⟨3, _⟩ =>
      rw [show (⟨3, _⟩ : Fin 5) = 3 from rfl, T.step3, hmax, hmin, hmin, hmin, i0, i1, i2, i3]
      rcases cnt_succ (x := x) p n with ⟨a, b⟩ | ⟨a, b⟩ <;> simp only [a, b, and_true, and_false, or_false] <;> simp <;> omega
    | ⟨4, _⟩ =>
      rw [show (⟨4, _⟩ : Fin 5) = 4 from rfl, T.step4, hmax, hmin, hmin, hmin, hmin, i0, i1, i2, i3, i4]
      rcases cnt_succ (x := x) p n with ⟨a, b⟩ | ⟨a, b⟩ <;> simp only [a, b, and_true, and_false, or_false] <;> simp <;> omega

/-- … for "at least `c`". -/
theorem Network.le_iff (T : Network N x) (c : EReal) (hc : c ≠ ⊥) (k : Fin 5) :
    c ≤ T.t N le_rfl k ↔ k.val + 1 ≤ cnt x (c ≤ ·) N :=
  T.iff _ (fun _ _ => le_max_iff) (fun _ _ => le_min_iff) (by simpa using hc) N le_rfl k

/-- … for "more than `c`". -/
theorem Network.lt_iff (T : Network N x) (c : EReal) (k : Fin 5) :
    c < T.t N le_rfl k ↔ k.val + 1 ≤ cnt x (c < ·) N :=
  T.iff _ (fun _ _ => lt_max_iff) (fun _ _ => lt_min_iff) (by simp) N le_rfl k

/-- A running maximum is one of the numbers, or there were too few. -/
theorem Network.mem (T : Network N x) (k : Fin 5) (hc : T.t N le_rfl k ≠ ⊥) : ∃ i < N, x i = T.t N le_rfl k := by
  by_contra hno
  push Not at hno
  have h1 := (T.le_iff _ hc k).1 le_rfl
  have h2 := mt (T.lt_iff (T.t N le_rfl k) k).2 (lt_irrefl _)
  exact h2 (h1.trans (cnt_le _ _ _ fun i hi hle => lt_of_le_of_ne hle (hno i hi).symm))

/-- A number with at most four greater ones among the numbers is one of the running maxima. -/
theorem Network.has (T : Network N x) (i : ℕ) (hi : i < N) (hc : x i ≠ ⊥) (h4 : cnt x (x i < ·) N ≤ 4) :
    ∃ k, T.t N le_rfl k = x i := by
  have hlt : cnt x (x i < ·) N < cnt x (x i ≤ ·) N :=
    cnt_lt _ _ _ (fun _ _ h => h.le) i hi le_rfl (lt_irrefl _)
  refine ⟨⟨cnt x (x i < ·) N, by omega⟩, le_antisymm ?_ ((T.le_iff _ hc _).2 hlt)⟩
  by_contra hcon
  have := (T.lt_iff (x i) ⟨cnt x (x i < ·) N, by omega⟩).1 (not_le.1 hcon)
  simp at this

/-- The positions `p 0, …, p 5` hold the six greatest numbers of `r`, each greater than the next, and no other position
    holds more than the last of them. -/
structure Six {n : ℕ} (r : Fin n → EReal) (p : Fin 6 → Fin n) : Prop where
  desc : ∀ j : Fin 5, r (p j.succ) < r (p j.castSucc)
  rest : ∀ m, (∀ j : Fin 5, p j.castSucc ≠ m) → r m ≤ r (p 5)

namespace Six

variable {n : ℕ} {r : Fin n → EReal} {p : Fin 6 → Fin n}

/-- The six numbers descend. -/
theorem anti (h : Six r p) : StrictAnti fun j => r (p j) := Fin.strictAnti_iff_succ_lt.2 h.desc

/-- The six positions are different. -/
theorem inj (h : Six r p) : Function.Injective p := fun a b e => h.anti.injective (congrArg r e)

/-- The five greatest numbers are not −∞. -/
theorem ne_bot (h : Six r p) (j : Fin 5) : r (p j.castSucc) ≠ ⊥ := (bot_le.trans_lt (h.desc j)).ne'

/-- A position outside the five is below the fifth. -/
theorem rest_lt (h : Six r p) (m : Fin n) (hm : ∀ j : Fin 5, p j.castSucc ≠ m) : r m < r (p 4) :=
  (h.rest m hm).trans_lt (h.desc 4)

/-- The positions reaching the fifth number are the first five. -/
theorem reach_iff (h : Six r p) (m : Fin n) : r (p 4) ≤ r m ↔ ∃ j : Fin 5, p j.castSucc = m := by
  constructor
  · intro hle
    by_contra hno
    push Not at hno
    exact absurd hle (not_le.2 (h.rest_lt m hno))
  · rintro ⟨j, rfl⟩
    exact h.anti.antitone (show j.castSucc ≤ 4 from Fin.le_def.2 (by have := j.2; simp [Fin.val_castSucc]; omega))

/-- What lies above one of the five is another of the five, and there are at most four of those. -/
theorem above (h : Six r p) (j : Fin 5) (q : ℕ → Fin n) (N : ℕ) (hq : Set.InjOn q (Set.Iio N)) :
    cnt (fun i => r (q i)) (r (p j.castSucc) < ·) N ≤ 4 := by
  classical
  have hsub : ((range N).filter fun i => r (p j.castSucc) < r (q i)).image q
      ⊆ (univ.erase j).image fun k : Fin 5 => p k.castSucc := by
    intro m hm
    obtain ⟨i, hi, rfl⟩ := mem_image.1 hm
    have hlt := (mem_filter.1 hi).2
    obtain ⟨k, hk⟩ := (h.reach_iff (q i)).1 (((h.reach_iff _).2 ⟨j, rfl⟩).trans hlt.le)
    refine mem_image.2 ⟨k, mem_erase.2 ⟨fun e => ?_, mem_univ _⟩, hk⟩
    rw [← hk, e] at hlt; exact lt_irrefl _ hlt
  have h1 := card_le_card hsub
  rw [card_image_of_injOn (hq.mono fun i hi => by simpa using (mem_range.1 (mem_filter.1 hi).1))] at h1
  have h2 : ((univ.erase j).image fun k : Fin 5 => p k.castSucc).card ≤ (univ.erase j).card := card_image_le
  rw [card_erase_of_mem (mem_univ _), card_univ, Fintype.card_fin] at h2
  refine (le_of_eq ?_).trans (h1.trans h2)
  unfold cnt
  congr

end Six

open Classical in
/-- The candidates without the greatest of them. -/
noncomputable def drop {κ : Type} [Fintype κ] (c : κ → EReal) (q : κ) : EReal := if c q = univ.sup c then ⊥ else c q

/-- The candidates hold the numbers `v k, …, v 4` and nothing else above `v 4`. -/
structure Holds {κ : Type} (v : Fin 5 → EReal) (k : ℕ) (c : κ → EReal) : Prop where
  only : ∀ q, c q ≤ v 4 ∨ ∃ j : Fin 5, k ≤ j.val ∧ c q = v j
  all : ∀ j : Fin 5, k ≤ j.val → ∃ q, c q = v j

/-- The greatest candidate is `v k`. -/
theorem Holds.sup {κ : Type} [Fintype κ] {v : Fin 5 → EReal} (hv : StrictAnti v) {k : ℕ} (hk : k < 5) {c : κ → EReal} (h : Holds v k c) :
    univ.sup c = v ⟨k, hk⟩ := by
  refine le_antisymm (Finset.sup_le fun q _ => ?_) ?_
  · rcases h.only q with hq | ⟨j, hj, hq⟩
    · exact hq.trans (hv.antitone (Fin.le_def.2 (by simp; omega)))
    · rw [hq]; exact hv.antitone (Fin.le_def.2 hj)
  · obtain ⟨q, hq⟩ := h.all ⟨k, hk⟩ le_rfl
    rw [← hq]; exact Finset.le_sup (f := c) (mem_univ q)

/-- Removing the greatest candidate leaves `v (k + 1), …, v 4`. -/
theorem Holds.drop {κ : Type} [Fintype κ] {v : Fin 5 → EReal} (hv : StrictAnti v) {k : ℕ} (hk : k < 5) {c : κ → EReal} (h : Holds v k c) :
    Holds v (k + 1) (drop c) := by
  have hs := h.sup hv hk
  refine ⟨fun q => ?_, fun j hj => ?_⟩
  · unfold Top.drop
    rw [hs]
    split_ifs with hc
    · exact .inl bot_le
    · rcases h.only q with hq | ⟨j, hj, hq⟩
      · exact .inl hq
      · refine .inr ⟨j, ?_, hq⟩
        refine lt_of_le_of_ne hj fun e => hc ?_
        rw [hq]; congr 1; exact Fin.ext e.symm
  · obtain ⟨q, hq⟩ := h.all j (by omega)
    refine ⟨q, ?_⟩
    unfold Top.drop
    rw [hs, if_neg, hq]
    rw [hq]
    intro e
    have := hv.injective e
    rw [this] at hj; simp at hj

/-- After the greatest candidate is removed four times, the greatest that is left is the fifth. -/
theorem Holds.fifth {κ : Type} [Fintype κ] {v : Fin 5 → EReal} (hv : StrictAnti v) {c : κ → EReal} (h : Holds v 0 c) :
    univ.sup (Top.drop (Top.drop (Top.drop (Top.drop c)))) = v 4 :=
  ((((h.drop hv (by omega)).drop hv (by omega)).drop hv (by omega)).drop hv (by omega)).sup hv (by omega)

/-- THE THRESHOLD. The numbers `r` are dealt to `S` networks by `q`; the candidates are all the networks' maxima. After
    four removals the greatest candidate is the fifth greatest number. -/
theorem threshold {n : ℕ} {κ : Type} [Fintype κ] {r : Fin n → EReal} {p : Fin 6 → Fin n} (h : Six r p) {S : Type} (N : ℕ) (q : S → ℕ → Fin n)
    (hq : ∀ s, Set.InjOn (q s) (Set.Iio N)) (hall : ∀ m, ∃ s, ∃ i < N, q s i = m)
    (T : ∀ s, Network N fun i => r (q s i)) (c : κ → EReal) (hc : ∀ s k, ∃ z, c z = (T s).t N le_rfl k)
    (hc' : ∀ z, ∃ s k, c z = (T s).t N le_rfl k) :
    univ.sup (Top.drop (Top.drop (Top.drop (Top.drop c)))) = r (p 4) := by
  have hv : StrictAnti fun j : Fin 5 => r (p j.castSucc) := fun a b hab => h.anti (Fin.castSucc_lt_castSucc_iff.2 hab)
  refine Holds.fifth (v := fun j => r (p j.castSucc)) hv ⟨fun z => ?_, fun j _ => ?_⟩
  · obtain ⟨s, k, e⟩ := hc' z
    by_cases hb : c z = ⊥
    · left; rw [hb]; exact bot_le
    · obtain ⟨i, _, hi⟩ := (T s).mem k (by rw [← e]; exact hb)
      rw [e, ← hi]
      by_cases hm : ∃ j : Fin 5, p j.castSucc = q s i
      · obtain ⟨j, hj⟩ := hm
        exact .inr ⟨j, Nat.zero_le _, by simp only [hj]⟩
      · push Not at hm
        exact .inl (h.rest_lt _ hm).le
  · obtain ⟨s, i, hi, e⟩ := hall (p j.castSucc)
    obtain ⟨k, hk⟩ := (T s).has i hi (by simp only [e]; exact h.ne_bot j)
      (by simpa only [e] using h.above j (q s) N (hq s))
    obtain ⟨z, hz⟩ := hc s k
    exact ⟨z, by rw [hz, hk]; simp only [e]⟩

end Cert.Top
-- ==== Proof.Thr.lean ====
/- The body's functions at an index, over the extended reals: the threshold. -/
module

public import proofs.«01_k».proof.Proof.Entries
public import proofs.«01_k».proof.Proof.Top
public import Idealize.ShloMosaic.Lib.Pointwise

@[expose] public section

set_option maxRecDepth 16384

noncomputable section

namespace Cert.KernelIdeal.Thr

open Cert.KernelIdeal Cert.KernelIdeal.Gen Idealize.ShloMosaic

/-- The literal of the start values is −∞. -/
theorem bot : Ideal.ofBits .f32 0xFF800000#32 = ⊥ := by simp [Ideal.ofBits, Ideal.ieee]

/-- Slab `i` of the similarities holds eight rows of them. -/
theorem slab (s : FVec Ideal S1024x1024 .f32) (i : ℕ) (h : i + 1 ≤ 128) (r : Fin 8) (n : Fin 1024) :
    Body.slab (shapeCast S128x8x1024 s shapeCasts_S1024x1024_S128x8x1024) i h (ix2 r n)
      = s (ix2 ⟨i * 8 + r.val, by omega⟩ n) := by
  pointwise [Body.slab]

/-- The greatest candidate of a column. -/
theorem colMax (c : FVec Ideal S40x1024 .f32) (n : Fin 1024) :
    Body.colMax c (ix2 0 n) = Finset.univ.sup fun k : Fin 40 => c (ix2 k n) := by
  pointwise [Body.colMax]
  rw [bot]
  rfl

/-- Taking out the greatest candidate of a column is `Top.drop` of that column. -/
theorem dropMax (c : FVec Ideal S40x1024 .f32) (k : Fin 40) (n : Fin 1024) :
    Body.dropMax c (ix2 k n) = Top.drop (fun k : Fin 40 => c (ix2 k n)) k := by
  pointwise [Body.dropMax, colMax]
  rw [bot, Top.drop]

/-- Maximum `j` of slab row `r` is a candidate. -/
theorem cands_has (T : Body.Tops Ideal) (j : Fin 5) (r : Fin 8) (n : Fin 1024) : Body.cands T (ix2 ⟨8 * j.val + r.val, by omega⟩ n)
    = (![T.t1, T.t2, T.t3, T.t4, T.t5] : Fin 5 → FVec Ideal S8x1024 .f32) j (ix2 r n) := by
  pointwise [Body.cands]
  match j with
  | ⟨0, _⟩ =>
    refine (dif_pos (by simp)).trans ?_
    exact congrArg (fun q => T.t1 (ix2 q n)) (Fin.ext (by simp))
  | ⟨1, _⟩ =>
    refine (dif_neg (by simp)).trans ((dif_pos (by simp)).trans ?_)
    exact congrArg (fun q => T.t2 (ix2 q n)) (Fin.ext (by simp))
  | ⟨2, _⟩ =>
    refine (dif_neg (by simp; omega)).trans ((dif_neg (by simp; omega)).trans ((dif_pos (by simp; omega)).trans ?_))
    exact congrArg (fun q => T.t3 (ix2 q n)) (Fin.ext (by simp; omega))
  | ⟨3, _⟩ =>
    refine (dif_neg (by simp; omega)).trans ((dif_neg (by simp; omega)).trans ((dif_neg (by simp; omega)).trans
      ((dif_pos (by simp; omega)).trans ?_)))
    exact congrArg (fun q => T.t4 (ix2 q n)) (Fin.ext (by simp; omega))
  | ⟨4, _⟩ =>
    refine (dif_neg (by simp; omega)).trans ((dif_neg (by simp; omega)).trans ((dif_neg (by simp; omega)).trans
      ((dif_neg (by simp; omega)).trans ?_)))
    exact congrArg (fun q => T.t5 (ix2 q n)) (Fin.ext (by simp; omega))

/-- Slab row `r`'s element of slab `i`. -/
def pos (r : Fin 8) (i : ℕ) : Fin 1024 := ⟨(i * 8 + r.val) % 1024, Nat.mod_lt _ (by omega)⟩

/-- The similarities of column `n`, seen by slab row `r`. -/
theorem slab_pos (s : FVec Ideal S1024x1024 .f32) (i : ℕ) (h : i + 1 ≤ 128) (r : Fin 8) (n : Fin 1024) :
    s (ix2 (pos r i) n) = Body.slab (shapeCast S128x8x1024 s shapeCasts_S1024x1024_S128x8x1024) i h (ix2 r n) := by
  rw [slab]
  congr 2
  exact Fin.ext (Nat.mod_eq_of_lt (by omega))

/-- The five maxima of slab row `r` in column `n` are an insertion network. -/
def net (s : FVec Ideal S1024x1024 .f32) (n : Fin 1024) (r : Fin 8) : Top.Network 128 fun i => s (ix2 (pos r i) n) where
  t k h j := (fun T : Body.Tops Ideal => (![T.t1, T.t2, T.t3, T.t4, T.t5] : Fin 5 → FVec Ideal S8x1024 .f32) j (ix2 r n))
    (Body.tops (shapeCast S128x8x1024 s shapeCasts_S1024x1024_S128x8x1024) k h)
  start h k := by
    match k with
    | ⟨0, _⟩ => exact bot
    | ⟨1, _⟩ => exact bot
    | ⟨2, _⟩ => exact bot
    | ⟨3, _⟩ => exact bot
    | ⟨4, _⟩ => exact bot
  step0 k h := by rw [slab_pos s k h]; rfl
  step1 k h := by rw [slab_pos s k h]; rfl
  step2 k h := by rw [slab_pos s k h]; rfl
  step3 k h := by rw [slab_pos s k h]; rfl
  step4 k h := by rw [slab_pos s k h]; rfl

/-- THE THRESHOLD of column `n` is its fifth greatest similarity. -/
theorem thr (s : FVec Ideal S1024x1024 .f32) (n : Fin 1024) (p : Fin 6 → Fin 1024)
    (h : Top.Six (fun m => s (ix2 m n)) p) : Body.thr s (ix2 0 n) = s (ix2 (p 4) n) := by
  unfold Body.thr
  rw [colMax]
  simp only [dropMax]
  refine Top.threshold h 128 pos (fun r a ha b hb e => ?_) (fun m => ?_) (net s n) _ (fun r k => ?_) (fun z => ?_)
  · have := congrArg Fin.val e
    simp only [pos, Set.mem_Iio] at this ha hb
    omega
  · exact ⟨⟨m.val % 8, by omega⟩, m.val / 8, by omega, Fin.ext (by simp only [pos]; omega)⟩
  · exact ⟨⟨8 * k.val + r.val, by omega⟩, cands_has _ k r n⟩
  · refine ⟨⟨z.val % 8, by omega⟩, ⟨z.val / 8, by omega⟩, Eq.trans ?_ (cands_has (Body.tops _ 128 (le_refl 128)) ⟨z.val / 8, by omega⟩ ⟨z.val % 8, by omega⟩ n)⟩
    exact congrArg (fun q => Body.cands _ (ix2 q n)) (Fin.ext (by simp only; omega))

/-- A vertex is joined to its five nearest. -/
theorem adj (s : FVec Ideal S1024x1024 .f32) (m n : Fin 1024) (p : Fin 6 → Fin 1024)
    (h : Top.Six (fun m => s (ix2 m n)) p) : Body.adj s (ix2 m n) = if ∃ j : Fin 5, p j.castSucc = m then 1 else 0 := by
  rw [Entries.adj, thr s n p h]
  exact if_congr (h.reach_iff m) rfl rfl

end Cert.KernelIdeal.Thr

end
-- ==== Proof.Spec.lean ====
/- The layer's mathematics over the real numbers: what both programs compute. -/
module

public import Idealize.ShloMosaic.PureOps.Ideal
public import Idealize.ShloMosaic.Lib.Pointwise.Index

@[expose] public section

noncomputable section

namespace Cert.Spec

open Idealize.ShloMosaic

/-- The embedding of the real numbers carries sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The embedding of the real numbers carries the greater of two. -/
theorem coe_max (a b : ℝ) : ((max a b : ℝ) : EReal) = max (a : EReal) (b : EReal) := EReal.coe_strictMono.monotone.map_max

/-- The number added to a variance. -/
def eps : ℝ := (Ideal.ofBits .f32 0x3727C5AC#32).toReal

/-- It is a positive real number. -/
theorem eps_lit : ∃ r : ℝ, 0 < r ∧ Ideal.ofBits .f32 0x3727C5AC#32 = (r : EReal) := by
  refine ⟨_, ?_, by simp only [Ideal.ofBits, Ideal.ieee]; simp; rw [← EReal.coe_mul]⟩
  norm_num

/-- Its float word stands for it. -/
theorem eps_coe : Ideal.ofBits .f32 0x3727C5AC#32 = (eps : EReal) := by
  obtain ⟨r, -, h⟩ := eps_lit
  rw [eps, h, EReal.toReal_coe]

/-- It is positive. -/
theorem eps_pos : 0 < eps := by
  obtain ⟨r, hr, h⟩ := eps_lit
  rw [eps, h, EReal.toReal_coe]
  exact hr

/-- The number of elements of a channel. -/
theorem size_coe : Ideal.ofBits .f32 0x46000000#32 = ((8192 : ℝ) : EReal) := by
  simp only [Ideal.ofBits, Ideal.ieee]
  simp
  rw [← EReal.coe_mul, EReal.coe_eq_coe_iff]
  norm_num

/-- The least length a vector is divided by is positive. -/
theorem least_lit : ∃ r : ℝ, 0 < r ∧ Ideal.ofBits .f32 0x2B8CBCCC#32 = (r : EReal) := by
  refine ⟨_, ?_, by simp only [Ideal.ofBits, Ideal.ieee]; simp; rw [← EReal.coe_mul]⟩
  norm_num

/-! ### Unit vectors -/

/-- Row `k` of the head that row `f` belongs to. -/
def mate (f : Fin 384) (k : Fin 96) : Fin 384 := ⟨96 * (f.val / 96) + k.val, by omega⟩

/-- A vector divided by its length, or by the least length. -/
def unit (a : Fin 384 → EReal) (f : Fin 384) : EReal :=
  Ideal.div (a f) (max (Ideal.sqrt (∑ k : Fin 96, a (mate f k) * a (mate f k))) (Ideal.ofBits .f32 0x2B8CBCCC#32))

/-- A square is not negative, even of an infinity. -/
theorem mul_self_nonneg (a : EReal) : 0 ≤ a * a := by
  induction a using EReal.rec with
  | bot => simp
  | top => simp
  | coe r => rw [← EReal.coe_mul, EReal.coe_nonneg]; exact _root_.mul_self_nonneg r

/-- It is real whatever the vector. -/
theorem unit_real (a : Fin 384 → EReal) (f : Fin 384) : ∃ r : ℝ, unit a f = (r : EReal) := by
  obtain ⟨e, he, hl⟩ := least_lit
  unfold unit
  rw [hl]
  have hf : mate f ⟨f.val % 96, by omega⟩ = f := Fin.ext (by simp only [mate]; omega)
  have hle : a f * a f ≤ ∑ k : Fin 96, a (mate f k) * a (mate f k) := by
    have h := Finset.single_le_sum (f := fun k : Fin 96 => a (mate f k) * a (mate f k)) (fun k _ => mul_self_nonneg _)
      (Finset.mem_univ (⟨f.val % 96, by omega⟩ : Fin 96))
    simp only [hf] at h
    exact h
  generalize (∑ k : Fin 96, a (mate f k) * a (mate f k)) = s at hle
  generalize a f = x at hle
  have h0 : 0 ≤ s := (mul_self_nonneg x).trans hle
  induction s using EReal.rec with
  | bot => simp at h0
  | top =>
    refine ⟨0, ?_⟩
    simp [Ideal.div]
  | coe s =>
    have hs : ¬ s < 0 := not_lt.2 (EReal.coe_nonneg.1 h0)
    have hne : max (Real.sqrt s) e ≠ 0 := (lt_max_of_lt_right he).ne'
    rw [Ideal.sqrt_coe, if_neg hs, ← coe_max, Ideal.div_coe hne]
    induction x using EReal.rec with
    | bot => simp at hle
    | top => simp at hle
    | coe x => exact ⟨x * (1 / max (Real.sqrt s) e), (EReal.coe_mul _ _).symm⟩

/-- A unit vector's entries as real numbers. -/
theorem unit_coe (a : Fin 384 → EReal) (f : Fin 384) : unit a f = ((unit a f).toReal : EReal) := by
  obtain ⟨r, h⟩ := unit_real a f
  rw [h, EReal.toReal_coe]

/-! ### The moments of a channel -/

/-- The mean. -/
def mean (z : Fin 8 → Fin 1024 → ℝ) : ℝ := (∑ i : Fin 8 × Fin 1024, z i.1 i.2) / 8192

/-- The variance. -/
def var (z : Fin 8 → Fin 1024 → ℝ) : ℝ := (∑ i : Fin 8 × Fin 1024, (z i.1 i.2 - mean z) * (z i.1 i.2 - mean z)) / 8192

/-- The variance is the mean of the squares less the square of the mean. -/
theorem var_eq (z : Fin 8 → Fin 1024 → ℝ) : mean (fun b n => z b n * z b n) - mean z * mean z = var z := by
  have h1 : ∑ i : Fin 8 × Fin 1024, (z i.1 i.2 - mean z) * (z i.1 i.2 - mean z)
      = ∑ i : Fin 8 × Fin 1024, z i.1 i.2 * z i.1 i.2 - 2 * mean z * ∑ i : Fin 8 × Fin 1024, z i.1 i.2 + 8192 * (mean z * mean z) := by
    rw [Finset.mul_sum, ← Finset.sum_sub_distrib,
      show 8192 * (mean z * mean z) = ∑ _i : Fin 8 × Fin 1024, mean z * mean z by
        rw [Finset.sum_const, Finset.card_univ, Fintype.card_prod, Fintype.card_fin, Fintype.card_fin, nsmul_eq_mul]; norm_num,
      ← Finset.sum_add_distrib]
    exact Finset.sum_congr rfl fun i _ => by ring
  have h2 : ∑ i : Fin 8 × Fin 1024, z i.1 i.2 = 8192 * mean z := by
    unfold mean; ring
  have h3 : mean (fun b n => z b n * z b n) = (∑ i : Fin 8 × Fin 1024, z i.1 i.2 * z i.1 i.2) / 8192 := rfl
  rw [var, h1, h2, h3]
  ring

/-- The variance is not negative, -/
theorem var_nonneg (z : Fin 8 → Fin 1024 → ℝ) : 0 ≤ var z :=
  div_nonneg (Finset.sum_nonneg fun _ _ => _root_.mul_self_nonneg _) (by norm_num)

/-- so with `eps` it is positive. -/
theorem spread_pos (z : Fin 8 → Fin 1024 → ℝ) : 0 < var z + eps := add_pos_of_nonneg_of_pos (var_nonneg z) eps_pos

/-- An element, normalised and scaled. -/
def scaled (z : Fin 8 → Fin 1024 → ℝ) (g : ℝ) (b : Fin 8) (n : Fin 1024) : ℝ :=
  (z b n - mean z) / Real.sqrt (var z + eps) * g

/-! ### The layer -/

/-- What the layer is given: keys, queries and values of each batch, row and vertex, the five neighbours of each vertex, and
    the parameters of the two convolutions that follow. -/
structure Data where
  k : Fin 8 → Fin 384 → Fin 1024 → ℝ
  q : Fin 8 → Fin 384 → Fin 1024 → ℝ
  v : Fin 8 → Fin 384 → Fin 1024 → ℝ
  near : Fin 8 → Fin 1024 → Fin 5 → Fin 1024
  wp : Fin 96 → Fin 384 → ℝ
  bp : Fin 96 → ℝ
  w1 : Fin 96 → Fin 96 → ℝ
  b1 : Fin 96 → ℝ
  w2 : Fin 96 → Fin 96 → ℝ
  b2 : Fin 96 → ℝ
  g1 : Fin 96 → ℝ
  beta1 : Fin 96 → ℝ
  g2 : Fin 96 → ℝ
  beta2 : Fin 96 → EReal

namespace Data

variable (D : Data)

/-- A vertex's row with its neighbours'. -/
def lap (t : Fin 8 → Fin 384 → Fin 1024 → ℝ) (b : Fin 8) (f : Fin 384) (n : Fin 1024) : ℝ :=
  t b f n + ∑ j : Fin 5, t b f (D.near b n j)

/-- The sum of keys times values over the vertices. -/
def kv (b : Fin 8) (f : Fin 384) : ℝ := (∑ n : Fin 1024, D.lap D.k b f n * D.lap D.v b f n) / 36

/-- The attention's output. -/
def att (b : Fin 8) (f : Fin 384) (n : Fin 1024) : ℝ := D.q b f n * D.kv b f

/-- The projection. -/
def proj (o : Fin 96) (b : Fin 8) (n : Fin 1024) : ℝ := (∑ f : Fin 384, D.wp o f * D.att b f n) + D.bp o

/-- The first convolution. -/
def z1 (o : Fin 96) (b : Fin 8) (n : Fin 1024) : ℝ := (∑ k : Fin 96, D.w1 o k * D.proj k b n) + D.b1 o

/-- … normalised, and cut at zero. -/
def y1 (o : Fin 96) (b : Fin 8) (n : Fin 1024) : ℝ := max (scaled (D.z1 o) (D.g1 o) b n + D.beta1 o) 0

/-- The second convolution. -/
def z2 (o : Fin 96) (b : Fin 8) (n : Fin 1024) : ℝ := (∑ k : Fin 96, D.w2 o k * D.y1 k b n) + D.b2 o

/-- THE RESULT. -/
def result (b : Fin 8) (o : Fin 96) (n : Fin 1024) : EReal :=
  max ((scaled (D.z2 o) (D.g2 o) b n : EReal) + D.beta2 o) 0

/-- The projection and the first convolution in one. -/
theorem z1_fused (o : Fin 96) (b : Fin 8) (n : Fin 1024) :
    (∑ f : Fin 384, (∑ k : Fin 96, D.w1 o k * D.wp k f) * (D.q b f n * D.kv b f)) + ((∑ k : Fin 96, D.w1 o k * D.bp k) + D.b1 o)
      = D.z1 o b n := by
  unfold z1 proj att
  simp only [mul_add, Finset.sum_add_distrib, Finset.mul_sum, Finset.sum_mul]
  rw [Finset.sum_comm, add_assoc]
  simp only [mul_assoc]

/-- A sum over the neighbours as a sum over all vertices. -/
theorem sum_near (t : Fin 1024 → ℝ) (p : Fin 5 → Fin 1024) (hp : Function.Injective p) [∀ m, Decidable (∃ j, p j = m)] :
    ∑ m : Fin 1024, t m * (if ∃ j, p j = m then 1 else 0) = ∑ j : Fin 5, t (p j) := by
  classical
  simp only [mul_ite, mul_one, mul_zero]
  rw [← Finset.sum_filter, ← Finset.sum_image (s := Finset.univ) (g := p) (f := t) (fun a _ b _ h => hp h)]
  refine Finset.sum_congr (Finset.ext fun m => ?_) fun _ _ => rfl
  simp

end Data

/-! ### The data of the arrays -/

section Arrays

variable (x0 : (⟨4, ![8, 96, 32, 32]⟩ : Shape).Idx → EReal) (x1 x3 x5 : (⟨2, ![384, 96]⟩ : Shape).Idx → EReal)
  (x2 x4 x6 : (⟨1, ![384]⟩ : Shape).Idx → EReal) (x7 : (⟨2, ![96, 384]⟩ : Shape).Idx → EReal)
  (x9 x11 : (⟨2, ![96, 96]⟩ : Shape).Idx → EReal) (x8 x10 x12 x13 x14 x15 x16 : (⟨1, ![96]⟩ : Shape).Idx → EReal)

/-- A row of a convolution of 384 channels, at a vertex. -/
def row (w : (⟨2, ![384, 96]⟩ : Shape).Idx → EReal) (c : (⟨1, ![384]⟩ : Shape).Idx → EReal)
    (x : (⟨4, ![8, 96, 32, 32]⟩ : Shape).Idx → EReal) (b : Fin 8) (n : Fin 1024) (f : Fin 384) : EReal :=
  (∑ k : Fin 96, w (ix2 f k) * x (ix4 b k ⟨n.val / 32, by omega⟩ ⟨n.val % 32, by omega⟩)) + c (ix1 f)

/-- The arrays hold the data. -/
structure Holds (D : Data) : Prop where
  k : ∀ b f n, unit (row x1 x2 x0 b n) f = (D.k b f n : EReal)
  q : ∀ b f n, unit (row x3 x4 x0 b n) f = (D.q b f n : EReal)
  v : ∀ b f n, row x5 x6 x0 b n f = (D.v b f n : EReal)
  wp : ∀ o f, x7 (ix2 o f) = (D.wp o f : EReal)
  bp : ∀ o, x8 (ix1 o) = (D.bp o : EReal)
  w1 : ∀ o k, x9 (ix2 o k) = (D.w1 o k : EReal)
  b1 : ∀ o, x10 (ix1 o) = (D.b1 o : EReal)
  w2 : ∀ o k, x11 (ix2 o k) = (D.w2 o k : EReal)
  b2 : ∀ o, x12 (ix1 o) = (D.b2 o : EReal)
  g1 : ∀ o, x13 (ix1 o) = (D.g1 o : EReal)
  beta1 : ∀ o, x14 (ix1 o) = (D.beta1 o : EReal)
  g2 : ∀ o, x15 (ix1 o) = (D.g2 o : EReal)
  beta2 : ∀ o, x16 (ix1 o) = D.beta2 o

/-- An array of real numbers. -/
def Real' {s : Shape} (x : s.Idx → EReal) : Prop := ∀ i, ∃ r : ℝ, x i = (r : EReal)

/-- Such an array holds its own real parts. -/
theorem Real'.coe {s : Shape} {x : s.Idx → EReal} (h : Real' x) (i : s.Idx) : x i = ((x i).toReal : EReal) := by
  obtain ⟨r, e⟩ := h i
  rw [e, EReal.toReal_coe]

/-- The data of arrays. -/
def data (near : Fin 8 → Fin 1024 → Fin 5 → Fin 1024) : Data where
  k b f n := (unit (row x1 x2 x0 b n) f).toReal
  q b f n := (unit (row x3 x4 x0 b n) f).toReal
  v b f n := (row x5 x6 x0 b n f).toReal
  near := near
  wp o f := (x7 (ix2 o f)).toReal
  bp o := (x8 (ix1 o)).toReal
  w1 o k := (x9 (ix2 o k)).toReal
  b1 o := (x10 (ix1 o)).toReal
  w2 o k := (x11 (ix2 o k)).toReal
  b2 o := (x12 (ix1 o)).toReal
  g1 o := (x13 (ix1 o)).toReal
  beta1 o := (x14 (ix1 o)).toReal
  g2 o := (x15 (ix1 o)).toReal
  beta2 o := x16 (ix1 o)

/-- The neighbours of `data` are the ones it is given. -/
theorem data_near (near : Fin 8 → Fin 1024 → Fin 5 → Fin 1024) :
    (data x0 x1 x3 x5 x2 x4 x6 x7 x9 x11 x8 x10 x12 x13 x14 x15 x16 near).near = near := rfl

/-- Arrays of real numbers hold their data. Of the keys' and queries' parameters and of the last shift nothing is asked. -/
theorem holds (near : Fin 8 → Fin 1024 → Fin 5 → Fin 1024) (h0 : Real' x0) (h5 : Real' x5) (h6 : Real' x6) (h7 : Real' x7)
    (h8 : Real' x8) (h9 : Real' x9) (h10 : Real' x10) (h11 : Real' x11) (h12 : Real' x12) (h13 : Real' x13) (h14 : Real' x14)
    (h15 : Real' x15) : Holds x0 x1 x3 x5 x2 x4 x6 x7 x9 x11 x8 x10 x12 x13 x14 x15 x16
      (data x0 x1 x3 x5 x2 x4 x6 x7 x9 x11 x8 x10 x12 x13 x14 x15 x16 near) where
  k b f n := unit_coe _ f
  q b f n := unit_coe _ f
  v b f n := by
    have e : row x5 x6 x0 b n f = (((∑ k : Fin 96, (x5 (ix2 f k)).toReal
        * (x0 (ix4 b k ⟨n.val / 32, by omega⟩ ⟨n.val % 32, by omega⟩)).toReal) + (x6 (ix1 f)).toReal : ℝ) : EReal) := by
      rw [EReal.coe_add, coe_sum]
      simp only [EReal.coe_mul]
      exact congrArg₂ (· + ·) (Finset.sum_congr rfl fun k _ => congrArg₂ (· * ·) (h5.coe _) (h0.coe _)) (h6.coe _)
    simp only [data]
    rw [e, EReal.toReal_coe]
  wp o f := h7.coe _
  bp o := h8.coe _
  w1 o k := h9.coe _
  b1 o := h10.coe _
  w2 o k := h11.coe _
  b2 o := h12.coe _
  g1 o := h13.coe _
  beta1 o := h14.coe _
  g2 o := h15.coe _
  beta2 o := rfl

end Arrays

end Cert.Spec

end
-- ==== Proof.KernelValue.lean ====
/- The kernel's result is the layer's. -/
module

public import proofs.«01_k».proof.Proof.Array
public import proofs.«01_k».proof.Proof.Thr
public import proofs.«01_k».proof.Proof.Spec

@[expose] public section

set_option maxRecDepth 16384

noncomputable section

namespace Cert.KernelIdeal.Meaning

open Cert.KernelIdeal Cert.KernelIdeal.Gen Idealize.ShloMosaic

variable (x0 : FVec Ideal S8x96x32x32 .f32) (x1 x3 x5 : FVec Ideal S384x96 .f32) (x2 x4 x6 : FVec Ideal S384 .f32)
  (x7 : FVec Ideal S96x384 .f32) (x9 x11 : FVec Ideal S96x96 .f32) (x8 x10 x12 x13 x14 x15 x16 : FVec Ideal S96 .f32)

/-! ### The operands -/

/-- The flattened positions lie by rows of thirty-two. -/
theorem flat (b : Fin 8) (k : Fin 96) (n : Fin 1024) :
    Array.flat x0 (ix3 b k n) = x0 (ix4 b k ⟨n.val / 32, by omega⟩ ⟨n.val % 32, by omega⟩) := by
  pointwise [Array.flat]

/-- The first 384 rows of the joined matrices are the keys', -/
theorem mats_k (f : Fin 384) (k : Fin 96) : Array.mats x1 x3 x5 (ix2 ⟨f.val, by omega⟩ k) = x1 (ix2 f k) := by
  pointwise [Array.mats]

/-- the next the values', -/
theorem mats_v (f : Fin 384) (k : Fin 96) : Array.mats x1 x3 x5 (ix2 ⟨384 + f.val, by omega⟩ k) = x5 (ix2 f k) := by
  pointwise [Array.mats]

/-- and the last the queries'. -/
theorem mats_q (f : Fin 384) (k : Fin 96) : Array.mats x1 x3 x5 (ix2 ⟨768 + f.val, by omega⟩ k) = x3 (ix2 f k) := by
  pointwise [Array.mats]
  refine (dif_neg (by omega)).trans ((dif_neg (by omega)).trans ?_)
  simp only [show 768 + f.val - 384 - 384 = f.val by omega]

/-- So with the biases: the keys' first, -/
theorem biases_k (f : Fin 384) : Array.biases x2 x4 x6 (ix2 ⟨f.val, by omega⟩ 0) = x2 (ix1 f) := by
  pointwise [Array.biases]

/-- the values' next, -/
theorem biases_v (f : Fin 384) : Array.biases x2 x4 x6 (ix2 ⟨384 + f.val, by omega⟩ 0) = x6 (ix1 f) := by
  pointwise [Array.biases]

/-- the queries' last. -/
theorem biases_q (f : Fin 384) : Array.biases x2 x4 x6 (ix2 ⟨768 + f.val, by omega⟩ 0) = x4 (ix1 f) := by
  pointwise [Array.biases]
  refine (dif_neg (by omega)).trans ((dif_neg (by omega)).trans ?_)
  simp only [show 768 + f.val - 384 - 384 = f.val by omega]

/-- A column made of a row holds the same numbers. -/
theorem col (v : FVec Ideal S96 .f32) (o : Fin 96) : Array.col v (ix2 o 0) = v (ix1 o) := by
  pointwise [Array.col]

/-- The channels of batch element `b` at the vertices. -/
def xb (b : Fin 8) : FVec Ideal S96x1024 .f32 := fun i => Run.slab (Array.flat x0) b (ix3 0 (i 0) (i 1))

/-- One batch element, by its four indices. -/
theorem xb_apply (b : Fin 8) (k : Fin 96) (n : Fin 1024) :
    xb x0 b (ix2 k n) = x0 (ix4 b k ⟨n.val / 32, by omega⟩ ⟨n.val % 32, by omega⟩) := (flat x0 b k n).symm.symm

/-- Keys, values and queries before the keys and the queries are made unit vectors. -/
def proj (b : Fin 8) : FVec Ideal S1152x1024 .f32 := Body.kvq (Array.mats x1 x3 x5) (Array.biases x2 x4 x6) (xb x0 b)

/-- The rows of the joined convolution: the keys', -/
theorem proj_k (b : Fin 8) (f : Fin 384) (n : Fin 1024) :
    proj x0 x1 x3 x5 x2 x4 x6 b (ix2 ⟨f.val, by omega⟩ n) = Spec.row x1 x2 x0 b n f := by
  rw [proj, Entries.kvq, biases_k]
  simp only [mats_k, xb_apply]
  rfl

/-- the values', -/
theorem proj_v (b : Fin 8) (f : Fin 384) (n : Fin 1024) :
    proj x0 x1 x3 x5 x2 x4 x6 b (ix2 ⟨384 + f.val, by omega⟩ n) = Spec.row x5 x6 x0 b n f := by
  rw [proj, Entries.kvq, biases_v]
  simp only [mats_v, xb_apply]
  rfl

/-- and the queries'. -/
theorem proj_q (b : Fin 8) (f : Fin 384) (n : Fin 1024) :
    proj x0 x1 x3 x5 x2 x4 x6 b (ix2 ⟨768 + f.val, by omega⟩ n) = Spec.row x3 x4 x0 b n f := by
  rw [proj, Entries.kvq, biases_q]
  simp only [mats_q, xb_apply]
  rfl

/-! ### A batch element -/

variable (D : Spec.Data) (h : Spec.Holds x0 x1 x3 x5 x2 x4 x6 x7 x9 x11 x8 x10 x12 x13 x14 x15 x16 D)
  (near : ∀ b n, ∃ p : Fin 6 → Fin 1024, Top.Six (fun m => Body.sim (xb x0 b) (ix2 m n)) p ∧ ∀ j : Fin 5, p j.castSucc = D.near b n j)

include h in
/-- The kernel's queries are the layer's. -/
theorem queries (b : Fin 8) (f : Fin 384) (n : Fin 1024) :
    Body.queries (proj x0 x1 x3 x5 x2 x4 x6 b) (ix2 f n) = (D.q b f n : EReal) := by
  rw [Entries.queries, proj_q]
  simp only [proj_q]
  exact h.q b f n

include h in
/-- The kernel's keys are the layer's. -/
theorem keys (b : Fin 8) (f : Fin 384) (n : Fin 1024) :
    Body.keysVals (proj x0 x1 x3 x5 x2 x4 x6 b) (ix2 ⟨f.val, by omega⟩ n) = (D.k b f n : EReal) := by
  rw [Entries.keys, proj_k]
  simp only [proj_k]
  exact h.k b f n

include h in
/-- The kernel's values are the layer's. -/
theorem vals (b : Fin 8) (f : Fin 384) (n : Fin 1024) :
    Body.keysVals (proj x0 x1 x3 x5 x2 x4 x6 b) (ix2 ⟨384 + f.val, by omega⟩ n) = (D.v b f n : EReal) := by
  rw [Entries.vals, proj_v]
  exact h.v b f n

include near in
/-- A row of real numbers through the neighbours' sum. -/
theorem lap (kv : FVec Ideal S768x1024 .f32) (f : Fin 768) (t : Fin 8 → Fin 384 → Fin 1024 → ℝ) (g : Fin 384) (b : Fin 8)
    (ht : ∀ n, kv (ix2 f n) = (t b g n : EReal)) (n : Fin 1024) :
    Body.lap kv (Body.adj (Body.sim (xb x0 b))) (ix2 f n) = (D.lap t b g n : EReal) := by
  classical
  obtain ⟨p, hp, e⟩ := near b n
  rw [Entries.lap, ht, Spec.Data.lap, ← Spec.Data.sum_near (t b g) (D.near b n)
    (fun i j hij => Fin.castSucc_injective 5 (hp.inj (by rw [e, e, hij]))), add_comm, EReal.coe_add, Spec.coe_sum]
  refine congrArg _ (Finset.sum_congr rfl fun m _ => ?_)
  rw [Thr.adj _ m n p hp, ht, EReal.coe_mul]
  simp only [e]
  split_ifs <;> simp

include h near in
/-- The kernel's key-value products are the layer's. -/
theorem kvSum (b : Fin 8) (f : Fin 384) :
    Body.kvSum (Body.lap (Body.keysVals (proj x0 x1 x3 x5 x2 x4 x6 b)) (Body.adj (Body.sim (xb x0 b)))) (ix2 f 0)
      = (D.kv b f : EReal) := by
  rw [Entries.kvSum]
  simp only [lap x0 D near _ ⟨f.val, by omega⟩ D.k f b (keys x0 x1 x3 x5 x2 x4 x6 x7 x9 x11 x8 x10 x12 x13 x14 x15 x16 D h b f),
    lap x0 D near _ ⟨384 + f.val, by omega⟩ D.v f b (vals x0 x1 x3 x5 x2 x4 x6 x7 x9 x11 x8 x10 x12 x13 x14 x15 x16 D h b f),
    ← EReal.coe_mul, ← Spec.coe_sum]
  exact congrArg _ (div_eq_mul_one_div _ _).symm

include h near in
/-- The kernel's fused convolution is the layer's first convolution of the projection. -/
theorem z1 (b : Fin 8) (o : Fin 96) (n : Fin 1024) :
    Body.z1 (Array.mats x1 x3 x5) (Array.biases x2 x4 x6) x7 (Array.col x8) x9 (Array.col x10) (Run.slab (Array.flat x0) b) (ix2 o n)
      = (D.z1 o b n : EReal) := by
  rw [Entries.z1, Entries.bpg]
  change (∑ f : Fin 384, Body.wpg x9 x7 (ix2 o f) * (Body.queries (proj x0 x1 x3 x5 x2 x4 x6 b) (ix2 f n)
    * Body.kvSum (Body.lap (Body.keysVals (proj x0 x1 x3 x5 x2 x4 x6 b)) (Body.adj (Body.sim (xb x0 b)))) (ix2 f 0))) + _ = _
  simp only [kvSum x0 x1 x3 x5 x2 x4 x6 x7 x9 x11 x8 x10 x12 x13 x14 x15 x16 D h near,
    queries x0 x1 x3 x5 x2 x4 x6 x7 x9 x11 x8 x10 x12 x13 x14 x15 x16 D h, Entries.wpg, col, h.w1, h.wp, h.bp, h.b1,
    ← EReal.coe_mul, ← EReal.coe_add, ← Spec.coe_sum]
  rw [D.z1_fused]

/-! ### The normalisations -/

/-- Column `n` of batch element `b`. -/
def at' (b : Fin 8) (n : Fin 1024) : Fin 8192 := ⟨1024 * b.val + n.val, by omega⟩

/-- The columns are the pairs of a batch element and a vertex. -/
def columns : Fin 8 × Fin 1024 ≃ Fin 8192 where
  toFun i := at' i.1 i.2
  invFun j := (⟨j.val / 1024, by omega⟩, ⟨j.val % 1024, by omega⟩)
  left_inv i := Prod.ext (Fin.ext (by simp only [at']; omega)) (Fin.ext (by simp only [at']; omega))
  right_inv j := Fin.ext (by simp only [at']; omega)

section Channel
variable (Z : FVec Ideal S96x8192 .f32) (o : Fin 96) (z : Fin 8 → Fin 1024 → ℝ) (hz : ∀ b n, Z (ix2 o (at' b n)) = (z b n : EReal))

include hz in
/-- The mean of a channel is the layer's. -/
theorem mean : Body.mean Z (ix2 o 0) = (Spec.mean z : EReal) := by
  rw [Entries.mean, Spec.size_coe, Ideal.div_coe (by norm_num), ← columns.sum_comp]
  simp only [columns, Equiv.coe_fn_mk, hz]
  rw [← Spec.coe_sum, ← EReal.coe_mul]
  exact congrArg _ (div_eq_mul_one_div _ _).symm

include hz in
/-- The multiplier of a channel is its weight over the root of its variance and `eps`. -/
theorem scale (g : FVec Ideal S96x1 .f32) (r : ℝ) (hg : g (ix2 o 0) = (r : EReal)) :
    Body.scale Z g (ix2 o 0) = (1 / Real.sqrt (Spec.var z + Spec.eps) * r : ℝ) := by
  have hs := Spec.spread_pos z
  rw [Entries.scale, mean Z o z hz, mean (mulf Z Z) o (fun b n => z b n * z b n)
    (fun b n => (congrArg₂ (· * ·) (hz b n) (hz b n)).trans (EReal.coe_mul _ _).symm), hg, Spec.eps_coe,
    ← EReal.coe_mul, ← EReal.coe_sub, Spec.var_eq, ← EReal.coe_add, Ideal.rsqrt_coe, if_neg (not_lt.2 hs.le), if_neg hs.ne',
    ← EReal.coe_mul, one_div]

include hz in
/-- The first normalisation is the layer's, cut at zero. -/
theorem norm1 (g beta : FVec Ideal S96x1 .f32) (r s : ℝ) (hg : g (ix2 o 0) = (r : EReal)) (hb : beta (ix2 o 0) = (s : EReal))
    (b : Fin 8) (n : Fin 1024) :
    Body.norm1 Z g beta (ix2 o (at' b n)) = (max (Spec.scaled z r b n + s) 0 : ℝ) := by
  rw [Entries.norm1, mean Z o z hz, scale Z o z hz g r hg, hz, hb, ← EReal.coe_sub, ← EReal.coe_mul, ← EReal.coe_add,
    ← EReal.coe_zero, ← Spec.coe_max]
  refine congrArg (fun u : ℝ => ((max (u + s) 0 : ℝ) : EReal)) ?_
  unfold Spec.scaled
  ring

end Channel

/-- A real number, less one and more of any number. -/
theorem shift_eq (a b : ℝ) (c : EReal) : (a : EReal) + (c - (b : EReal)) = ((a - b : ℝ) : EReal) + c := by
  rw [EReal.coe_sub, sub_eq_add_neg, sub_eq_add_neg, add_comm c, add_assoc]

include h near in
/-- THE KERNEL'S RESULT at an index. -/
theorem result (b : Fin 8) (o : Fin 96) (n : Fin 1024) :
    Run.result (Array.flat x0) (Array.mats x1 x3 x5) (Array.biases x2 x4 x6) x7 (Array.col x8) x9 (Array.col x10) x11 (Array.col x12)
      (Array.col x13) (Array.col x14) (Array.col x15) (Array.col x16) (ix3 b o n) = D.result b o n := by
  set Z := Run.scratch (Array.flat x0) (Array.mats x1 x3 x5) (Array.biases x2 x4 x6) x7 (Array.col x8) x9 (Array.col x10) with hZ
  have h1 : ∀ o b n, Z (ix2 o (at' b n)) = (D.z1 o b n : EReal) := by
    intro o b n
    have eb : Run.batchOf (at' b n) = b := Fin.ext (show (1024 * b.val + n.val) / 1024 = b.val by omega)
    have en : Run.posOf (at' b n) = n := Fin.ext (show (1024 * b.val + n.val) % 1024 = n.val by omega)
    change Body.z1 _ _ _ _ _ _ (Run.slab (Array.flat x0) (Run.batchOf (at' b n))) (ix2 o (Run.posOf (at' b n))) = _
    rw [eb, en]
    exact z1 x0 x1 x3 x5 x2 x4 x6 x7 x9 x11 x8 x10 x12 x13 x14 x15 x16 D h near b o n
  have h2 : ∀ o b n, Body.norm1 Z (Array.col x13) (Array.col x14) (ix2 o (at' b n)) = (D.y1 o b n : EReal) := fun o b n =>
    norm1 Z o (D.z1 o) (h1 o) _ _ (D.g1 o) (D.beta1 o) ((col x13 o).trans (h.g1 o)) ((col x14 o).trans (h.beta1 o)) b n
  have h3 : ∀ o b n, Body.z2 x11 (Array.col x12) (Body.norm1 Z (Array.col x13) (Array.col x14)) (ix2 o (at' b n))
      = (D.z2 o b n : EReal) := by
    intro o b n
    rw [Entries.z2, col, h.b2]
    simp only [h2, h.w2, ← EReal.coe_mul, ← Spec.coe_sum, ← EReal.coe_add]
    rfl
  have hs := scale _ o (D.z2 o) (h3 o) (Array.col x15) (D.g2 o) ((col x15 o).trans (h.g2 o))
  change Body.out Z _ _ _ _ _ _ b.val b.isLt (ix3 0 o n) = _
  rw [Entries.out, Entries.shift, hs, mean _ o (D.z2 o) (h3 o), col, h.beta2]
  change max (Body.z2 x11 (Array.col x12) (Body.norm1 Z (Array.col x13) (Array.col x14)) (ix2 o (at' b n)) * _ + _) 0 = _
  rw [h3, ← EReal.coe_mul, ← EReal.coe_mul, shift_eq, Spec.Data.result]
  refine congrArg (fun u : ℝ => max ((u : EReal) + D.beta2 o) 0) ?_
  unfold Spec.scaled
  ring

end Cert.KernelIdeal.Meaning

end
-- ==== Proof.Ref.lean ====
/- The reference's stages as functions of the arrays they take, and each at an index. -/
module

public import proofs.«01_k».proof.Proof.Gen.ReferenceIdeal.Read
public import Idealize.ShloMosaic.Lib.Pointwise

@[expose] public section

set_option maxRecDepth 16384

noncomputable section

namespace Cert.ReferenceIdeal.Ref

open Cert.ReferenceIdeal Cert.ReferenceIdeal.Gen Cert.ReferenceIdeal.Read Idealize.ShloMosaic

/-- A convolution of 384 channels, head by head. -/
theorem v6 (x : FVec Ideal S8x96x32x32 .f32) (w : FVec Ideal S384x96 .f32) (c : FVec Ideal S384 .f32)
    (b : Fin 8) (h : Fin 4) (n : Fin 1024) (f : Fin 96) :
    val_main_v6 (F := Ideal) x w c (ix4 b h n f) = (∑ k : Fin 96, w (ix2 ⟨h.val * 96 + f.val, by omega⟩ k)
      * x (ix4 b k ⟨n.val / 32, by omega⟩ ⟨n.val % 32, by omega⟩)) + c (ix1 ⟨h.val * 96 + f.val, by omega⟩) := by
  pointwise [val_main_v6, val_main_v5, val_main_v4, val_main_v3, val_main_v2, val_main_v1, val_main_v0]

/-- … each head normalised. -/
theorem v25 (x : FVec Ideal S8x96x32x32 .f32) (w : FVec Ideal S384x96 .f32) (c : FVec Ideal S384 .f32)
    (b : Fin 8) (h : Fin 4) (n : Fin 1024) (f : Fin 96) :
    val_main_v25 (F := Ideal) x w c (ix4 b h n f) = Ideal.div (val_main_v6 (F := Ideal) x w c (ix4 b h n f))
      (max (Ideal.sqrt (∑ k : Fin 96, val_main_v6 (F := Ideal) x w c (ix4 b h n k) * val_main_v6 (F := Ideal) x w c (ix4 b h n k)))
        (Ideal.ofBits .f32 0x2B8CBCCC#32)) := by
  pointwise [val_main_v25, val_main_v24, val_main_v23, val_main_v22, val_main_cst, val_main_v21, val_main_call0_v2,
    val_main_call0_v1, val_main_call0_cst, val_main_call0_v0]

/-- The similarities. -/
theorem v37 (x : FVec Ideal S8x96x32x32 .f32) (b : Fin 8) (m n : Fin 1024) :
    val_main_v37 (F := Ideal) x (ix3 b m n) = ∑ k : Fin 96, val_main_v36 (F := Ideal) x (ix3 b k m) * val_main_v36 (F := Ideal) x (ix3 b k n) := by
  pointwise [val_main_v37]

/-- The unit columns of the input. -/
theorem v36 (x : FVec Ideal S8x96x32x32 .f32) (b : Fin 8) (k : Fin 96) (n : Fin 1024) :
    val_main_v36 (F := Ideal) x (ix3 b k n) = Ideal.div (val_main_v31 (F := Ideal) x (ix3 b k n))
      (max (Ideal.sqrt (∑ k : Fin 96, val_main_v31 (F := Ideal) x (ix3 b k n) * val_main_v31 (F := Ideal) x (ix3 b k n)))
        (Ideal.ofBits .f32 0x2B8CBCCC#32)) := by
  pointwise [val_main_v36, val_main_v35, val_main_v34, val_main_v33, val_main_cst_1, val_main_v32, val_main_call2_v2,
    val_main_call2_v1, val_main_call2_cst, val_main_call2_v0]

/-- The input, flattened. -/
theorem v31 (x : FVec Ideal S8x96x32x32 .f32) (b : Fin 8) (k : Fin 96) (n : Fin 1024) :
    val_main_v31 (F := Ideal) x (ix3 b k n) = x (ix4 b k ⟨n.val / 32, by omega⟩ ⟨n.val % 32, by omega⟩) := by
  pointwise [val_main_v31]

variable (x0 : FVec Ideal S8x96x32x32 .f32) (x1 x3 x5 : FVec Ideal S384x96 .f32) (x2 x4 x6 : FVec Ideal S384 .f32)
  (x7 : FVec Ideal S96x384 .f32) (x8 x10 x12 x13 x14 x15 x16 : FVec Ideal S96 .f32) (x9 x11 : FVec Ideal S96x96 .f32)

/-- The sums over the positions. -/
theorem v154 (b : Fin 8) (h : Fin 4) (f : Fin 96) :
    val_main_v154 (F := Ideal) x0 x1 x2 x5 x6 (ix3 b h f) = ∑ n : Fin 1024, val_main_v95 (F := Ideal) x0 x1 x2 (ix4 b h n f)
      * val_main_v153 (F := Ideal) x0 x5 x6 (ix4 b h n f) := by
  pointwise [val_main_v154]

/-- The attention's output, by channel and position: the query times the key-value product. -/
theorem v159 (b : Fin 8) (f : Fin 384) (n : Fin 1024) :
    val_main_v159 (F := Ideal) x0 x1 x2 x3 x4 x5 x6 (ix4 b f ⟨n.val / 32, by omega⟩ ⟨n.val % 32, by omega⟩)
      = val_main_v25 (F := Ideal) x0 x3 x4 (ix4 b ⟨f.val / 96, by omega⟩ n ⟨f.val % 96, by omega⟩)
        * val_main_v154 (F := Ideal) x0 x1 x2 x5 x6 (ix3 b ⟨f.val / 96, by omega⟩ ⟨f.val % 96, by omega⟩) := by
  have e : val_main_v30 (F := Ideal) x0 x3 x4 = val_main_v25 (F := Ideal) x0 x3 x4 := rfl
  pointwise [val_main_v159, val_main_v158, val_main_v157, val_main_v156, val_main_v155]
  rw [e]

/-- The projection. -/
theorem v164 (b : Fin 8) (o : Fin 96) (i j : Fin 32) :
    val_main_v164 (F := Ideal) x0 x1 x2 x3 x4 x5 x6 x7 x8 (ix4 b o i j) =
      (∑ k : Fin 384, x7 (ix2 o k) * val_main_v159 (F := Ideal) x0 x1 x2 x3 x4 x5 x6 (ix4 b k i j)) + x8 (ix1 o) := by
  pointwise [val_main_v164, val_main_v163, val_main_v162, val_main_v161, val_main_v160]

/-- A convolution of 96 channels. -/
def conv {F : FTy → Type} [FloatOps F] (w : FVec F S96x96 .f32) (c : FVec F S96 .f32) (y : FVec F S8x96x32x32 .f32) : FVec F S8x96x32x32 .f32 :=
  addf (transpose S8x96x32x32 [1, 0, 2, 3] (Host.dotGeneral dot_S96x96_S8x96x32x32_S96x8x32x32_1_1_0_023_n_n none w y)
    transposes_S96x8x32x32_S8x96x32x32_1_0_2_3) (broadcastInDim S8x96x32x32 ![0, 1, 2, 3] bcast_S1x96x1x1_S8x96x32x32_0_1_2_3
      (broadcastInDim S1x96x1x1 ![1] bcast_S96_S1x96x1x1_1 c))

/-- … by index. -/
theorem conv_apply (w : FVec Ideal S96x96 .f32) (c : FVec Ideal S96 .f32) (y : FVec Ideal S8x96x32x32 .f32)
    (b : Fin 8) (o : Fin 96) (i j : Fin 32) : conv w c y (ix4 b o i j) = (∑ k : Fin 96, w (ix2 o k) * y (ix4 b k i j)) + c (ix1 o) := by
  pointwise [conv]

/-- The reference's first convolution is `conv` of the projection, -/
theorem v169 : val_main_v169 (F := Ideal) x0 x1 x2 x3 x4 x5 x6 x7 x8 x9 x10
    = conv x9 x10 (val_main_v164 (F := Ideal) x0 x1 x2 x3 x4 x5 x6 x7 x8) := rfl

/-- and its second is `conv` of the first normalisation, cut at zero. -/
theorem v193 : val_main_v193 (F := Ideal) x0 x1 x2 x3 x4 x5 x6 x7 x8 x9 x10 x11 x12 x13 x14
    = conv x11 x12 (val_main_v188 (F := Ideal) x0 x1 x2 x3 x4 x5 x6 x7 x8 x9 x10 x13 x14) := rfl

/-- The sum of each channel. -/
def total {F : FTy → Type} [FloatOps F] (z : FVec F S8x96x32x32 .f32) : FVec F S96 .f32 :=
  Host.reduceAdd z (constant S_ .f32 0x00000000#32) reducesTo_S8x96x32x32_S96_d0_2_3 h_S_

/-- The mean of each channel. -/
def mean {F : FTy → Type} [FloatOps F] (z : FVec F S8x96x32x32 .f32) : FVec F S1x96x1x1 .f32 :=
  Host.divf (broadcastInDim S1x96x1x1 ![1] bcast_S96_S1x96x1x1_1 (total z))
    (broadcastInDim S1x96x1x1 ![] bcast_S_S1x96x1x1 (constant S_ .f32 0x46000000#32))

/-- Each element less the mean of its channel. -/
def centred {F : FTy → Type} [FloatOps F] (z : FVec F S8x96x32x32 .f32) : FVec F S8x96x32x32 .f32 :=
  subf z (broadcastInDim S8x96x32x32 ![0, 1, 2, 3] bcast_S1x96x1x1_S8x96x32x32_0_1_2_3 (mean z))

/-- The number of elements of a channel, less zero. -/
def count {F : FTy → Type} [FloatOps F] : FVec F S_ .f32 :=
  subf (constant S_ .f32 0x46000000#32) (sitofp .f32 (constantI S_ 32 0#32))

/-- The variance of each channel. -/
def variance {F : FTy → Type} [FloatOps F] (z : FVec F S8x96x32x32 .f32) : FVec F S1x96x1x1 .f32 :=
  select (broadcastInDim S1x96x1x1 ![] bcast_S_S1x96x1x1 (cmpf .ogt (count (F := F)) (constant S_ .f32 0x00000000#32)))
    (Host.divf (broadcastInDim S1x96x1x1 ![1] bcast_S96_S1x96x1x1_1 (total (mulf (centred z) (centred z))))
      (broadcastInDim S1x96x1x1 ![] bcast_S_S1x96x1x1 (count (F := F))))
    (broadcastInDim S1x96x1x1 ![] bcast_S_S1x96x1x1 (id (constant S_ .f32 0x7FC00000#32)))

/-- A normalisation and its cut at zero. -/
def norm {F : FTy → Type} [FloatOps F] (z : FVec F S8x96x32x32 .f32) (g beta : FVec F S96 .f32) : FVec F S8x96x32x32 .f32 :=
  maximumf (addf (mulf (Host.divf (centred z) (broadcastInDim S8x96x32x32 ![0, 1, 2, 3] bcast_S1x96x1x1_S8x96x32x32_0_1_2_3
      (Host.sqrt (addf (variance z) (broadcastInDim S1x96x1x1 ![] bcast_S_S1x96x1x1 (constant S_ .f32 0x3727C5AC#32))))))
      (broadcastInDim S8x96x32x32 ![0, 1, 2, 3] bcast_S1x96x1x1_S8x96x32x32_0_1_2_3 (broadcastInDim S1x96x1x1 ![1] bcast_S96_S1x96x1x1_1 g)))
    (broadcastInDim S8x96x32x32 ![0, 1, 2, 3] bcast_S1x96x1x1_S8x96x32x32_0_1_2_3 (broadcastInDim S1x96x1x1 ![1] bcast_S96_S1x96x1x1_1 beta)))
    (broadcastInDim S8x96x32x32 ![] bcast_S_S8x96x32x32 (constant S_ .f32 0x00000000#32))

/-- The reference's first normalisation is `norm`, -/
theorem v188 : val_main_v188 (F := Ideal) x0 x1 x2 x3 x4 x5 x6 x7 x8 x9 x10 x13 x14
    = norm (val_main_v169 (F := Ideal) x0 x1 x2 x3 x4 x5 x6 x7 x8 x9 x10) x13 x14 := rfl

/-- and its second is too. -/
theorem v212 : val_main_v212 (F := Ideal) x0 x1 x2 x3 x4 x5 x6 x7 x8 x9 x10 x11 x12 x13 x14 x15 x16
    = norm (val_main_v193 (F := Ideal) x0 x1 x2 x3 x4 x5 x6 x7 x8 x9 x10 x11 x12 x13 x14) x15 x16 := rfl

/-- The result flattens the positions. -/
theorem v213 (b : Fin 8) (o : Fin 96) (n : Fin 1024) :
    val_main_v213 (F := Ideal) x0 x1 x2 x3 x4 x5 x6 x7 x8 x9 x10 x11 x12 x13 x14 x15 x16 (ix3 b o n)
    = val_main_v212 (F := Ideal) x0 x1 x2 x3 x4 x5 x6 x7 x8 x9 x10 x11 x12 x13 x14 x15 x16
      (ix4 b o ⟨n.val / 32, by omega⟩ ⟨n.val % 32, by omega⟩) := by
  pointwise [val_main_v213]

/-- The mean, by channel. -/
theorem mean_apply (z : FVec Ideal S8x96x32x32 .f32) (o : Fin 96) :
    mean z (ix4 0 o 0 0) = Ideal.div (total z (ix1 o)) (Ideal.ofBits .f32 0x46000000#32) := by
  pointwise [mean]

/-- The difference from the mean, by index. -/
theorem centred_apply (z : FVec Ideal S8x96x32x32 .f32) (b : Fin 8) (o : Fin 96) (i j : Fin 32) :
    centred z (ix4 b o i j) = z (ix4 b o i j) - mean z (ix4 0 o 0 0) := by
  pointwise [centred]

/-- The normalisation, by index. -/
theorem norm_apply (z : FVec Ideal S8x96x32x32 .f32) (g beta : FVec Ideal S96 .f32) (b : Fin 8) (o : Fin 96) (i j : Fin 32) :
    norm z g beta (ix4 b o i j) = max (Ideal.div (centred z (ix4 b o i j))
      (Ideal.sqrt (variance z (ix4 0 o 0 0) + Ideal.ofBits .f32 0x3727C5AC#32)) * g (ix1 o) + beta (ix1 o)) 0 := by
  pointwise [norm]

/-- The variance, by channel. -/
theorem variance_apply (z : FVec Ideal S8x96x32x32 .f32) (o : Fin 96) :
    variance z (ix4 0 o 0 0) = Ideal.div (total (mulf (centred z) (centred z)) (ix1 o)) (Ideal.ofBits .f32 0x46000000#32) := by
  have e0 : (FloatOps.sitofp .f32 (0#32) : Ideal .f32) = (0 : EReal) := by
    change (((0#32 : BitVec 32).toInt : ℝ) : EReal) = 0
    simp
  have e1 : Ideal.ofBits .f32 0x46000000#32 - (0 : EReal) = Ideal.ofBits .f32 0x46000000#32 := by
    simp
  have e2 : (0 : EReal) < Ideal.ofBits .f32 0x46000000#32 := by
    simp [Ideal.ofBits, Ideal.ieee]
    rw [← EReal.coe_mul, EReal.coe_pos]
    norm_num
  pointwise [variance, count]
  rw [e0, e1]
  exact if_pos e2

/-- A position's row and column on the 32 × 32 grid. -/
def grid (b : Fin 8) (o : Fin 96) (n : Fin 1024) : S8x96x32x32.Idx := ix4 b o ⟨n.val / 32, by omega⟩ ⟨n.val % 32, by omega⟩

/-- The sum of a channel runs over the batch and the flattened positions. -/
theorem total_apply (z : FVec Ideal S8x96x32x32 .f32) (o : Fin 96) :
    total z (ix1 o) = ∑ p : Fin 8 × Fin 1024, z (grid p.1 o p.2) := by
  have e : total z (ix1 o) = Ideal.hostReduceAdd reducesTo_S8x96x32x32_S96_d0_2_3 z (0 : EReal) (ix1 o) := by
    pointwise [total]
  refine e.trans ((zero_add _).trans ?_)
  refine Finset.sum_filter_eq_sum_of_fiber _ (fun p : Fin 8 × Fin 1024 => grid p.1 o p.2) ?_ (fun i => ?_) z
  · intro p q h
    have h0 := congrArg Fin.val (congrFun h 0)
    have h2 := congrArg Fin.val (congrFun h 2)
    have h3 := congrArg Fin.val (congrFun h 3)
    change p.1.val = q.1.val at h0
    change p.2.val / 32 = q.2.val / 32 at h2
    change p.2.val % 32 = q.2.val % 32 at h3
    exact Prod.ext (Fin.ext h0) (Fin.ext (by omega))
  · constructor
    · intro h
      have h1 : (i 1).val = o.val := congrArg Fin.val (congrFun h 0)
      have l2 : (i 2).val < 32 := (i 2).isLt
      have l3 : (i 3).val < 32 := (i 3).isLt
      refine ⟨(⟨(i 0).val, (i 0).isLt⟩, ⟨32 * (i 2).val + (i 3).val, by omega⟩), ?_⟩
      funext a
      apply Fin.ext
      match a with
      | ⟨0, _⟩ => rfl
      | ⟨1, _⟩ => exact h1.symm
      | ⟨2, _⟩ => exact (show (32 * (i 2).val + (i 3).val) / 32 = (i 2).val by omega)
      | ⟨3, _⟩ => exact (show (32 * (i 2).val + (i 3).val) % 32 = (i 3).val by omega)
    · rintro ⟨p, rfl⟩
      funext a
      apply Fin.ext
      match a with
      | ⟨0, _⟩ => rfl

end Cert.ReferenceIdeal.Ref

end
-- ==== Proof.Lap.lean ====
/- The reference's normalised adjacency applied to an array: each vertex's five neighbours and the vertex itself, every
   edge weighted by one sixth. -/
module

public import proofs.«01_k».proof.Proof.Gen.ReferenceIdeal.Read
public import Idealize.ShloMosaic.Lib.Pointwise
public import Idealize.ShloMosaic.Lib.Routing.OpsPair

@[expose] public section

set_option maxRecDepth 16384

noncomputable section

namespace Cert.ReferenceIdeal.Lap

open Cert.ReferenceIdeal Cert.ReferenceIdeal.Gen Cert.ReferenceIdeal.Read Idealize.ShloMosaic

section defs
variable {F : FTy → Type} [FloatOps F]

/-- The edges' second ends: five neighbours of each vertex, then each vertex itself. -/
def ends (idx : IVec S8x1024x5 32) : IVec S8x6144 32 :=
  concatenate S8x6144 1 [⟨S8x5120, shapeCast S8x5120 idx shapeCasts_S8x1024x5_S8x5120⟩, ⟨S8x1024, val_main_v45 (F := F)⟩]
    concatenates_S8x5120_S8x1024_S8x6144_d1

/-- … as words that index an array of 1024. -/
def endWords (idx : IVec S8x1024x5 32) : IVec S8x6144x1 32 :=
  broadcastInDim S8x6144x1 ![0, 1] bcast_S8x6144_S8x6144x1_0_1
    (select (cmpi .slt (ends (F := F) idx) (val_main_v63 (F := F))) (addi (ends (F := F) idx) (val_main_v65 (F := F))) (ends (F := F) idx))

/-- The edges' weights. -/
def weights (idx : IVec S8x1024x5 32) : FVec F S8x6144 .f32 :=
  mulf (val_main_v71 (F := F)) (Host.gather gather_S1024_S8x6144x1_S8x6144_n_0_n_n_0_2_1 (val_main_v54 (F := F)) (endWords (F := F) idx))

/-- The features of each vertex in a row. -/
def rows (t : FVec F S8x4x1024x96 .f32) : FVec F S8x1024x384 .f32 :=
  shapeCast S8x1024x384 (transpose S8x1024x96x4 [0, 2, 3, 1] t transposes_S8x4x1024x96_S8x1024x96x4_0_2_3_1)
    shapeCasts_S8x1024x96x4_S8x1024x384

/-- What each edge brings. -/
def edges (t : FVec F S8x4x1024x96 .f32) (idx : IVec S8x1024x5 32) : FVec F S8x6144x384 .f32 :=
  mulf (broadcastInDim S8x6144x384 ![0, 1, 2] bcast_S8x6144x1_S8x6144x384_0_1_2
      (broadcastInDim S8x6144x1 ![0, 1] bcast_S8x6144_S8x6144x1_0_1 (weights idx)))
    (Host.gather gather_S8x1024x384_S8x6144x1_S8x6144x384_2_1_0_0_1_2_11384 (rows t) (endWords (F := F) idx))

/-- The sums over each vertex's edges. -/
def sums (t : FVec F S8x4x1024x96 .f32) (idx : IVec S8x1024x5 32) : FVec F S8x1024x384 .f32 :=
  Host.scatterAdd scatter_S8x1024x384_S6144x1_S8x6144x384_02_1_1_1 (val_main_v92 (F := F)) (val_main_v91 (F := F)) (edges t idx)

/-- The adjacency applied. -/
def lap (t : FVec F S8x4x1024x96 .f32) (idx : IVec S8x1024x5 32) : FVec F S8x4x1024x96 .f32 :=
  transpose S8x4x1024x96 [0, 3, 1, 2] (shapeCast S8x1024x96x4 (sums t idx) shapeCasts_S8x1024x384_S8x1024x96x4)
    transposes_S8x1024x96x4_S8x4x1024x96_0_3_1_2

/-- The reference's graph on the keys is `lap`, -/
theorem v95 (x0 : FVec F S8x96x32x32 .f32) (x1 : FVec F S384x96 .f32) (x2 : FVec F S384 .f32) :
    val_main_v95 (F := F) x0 x1 x2 = lap (val_main_v25 (F := F) x0 x1 x2) (val_main_indices (F := F) x0) := rfl

/-- and on the values. -/
theorem v153 (x0 : FVec F S8x96x32x32 .f32) (x5 : FVec F S384x96 .f32) (x6 : FVec F S384 .f32) :
    val_main_v153 (F := F) x0 x5 x6 = lap (val_main_v20 (F := F) x0 x5 x6) (val_main_indices (F := F) x0) := rfl

end defs

/-- The first end of an edge. -/
def src (e : Fin 6144) : Fin 1024 := ⟨if e.val < 5120 then e.val / 5 else e.val - 5120, by split <;> omega⟩

/-- The edges of vertex `n`: five to its neighbours and one to itself. -/
def edge (n : Fin 1024) : Option (Fin 5) → Fin 6144
  | some j => ⟨5 * n.val + j.val, by omega⟩
  | none => ⟨5120 + n.val, by omega⟩

/-- Vertex `n`'s edges begin at `n`. -/
theorem src_edge (n : Fin 1024) (o : Option (Fin 5)) : src (edge n o) = n := by
  refine Fin.ext ?_
  match o with
  | some j =>
    show (if 5 * n.val + j.val < 5120 then (5 * n.val + j.val) / 5 else 5 * n.val + j.val - 5120) = n.val
    exact (if_pos (by omega)).trans (by omega)
  | none =>
    show (if 5120 + n.val < 5120 then (5120 + n.val) / 5 else 5120 + n.val - 5120) = n.val
    exact (if_neg (by omega)).trans (by omega)

/-- An edge that begins at `n` is one of `n`'s six. -/
theorem edge_src (e : Fin 6144) (n : Fin 1024) (h : src e = n) : ∃ o, edge n o = e := by
  subst h
  by_cases he : e.val < 5120
  · refine ⟨some ⟨e.val % 5, by omega⟩, Fin.ext ?_⟩
    simp only [src, edge]; rw [if_pos he]; omega
  · refine ⟨none, Fin.ext ?_⟩
    simp only [src, edge]; rw [if_neg he]; omega

/-- The six are different. -/
theorem edge_inj (n : Fin 1024) : Function.Injective (edge n) := by
  intro a b h
  have h := congrArg Fin.val h
  match a, b with
  | some i, some j => simp only [edge] at h; exact congrArg some (Fin.ext (by omega))
  | some i, none => simp only [edge] at h; omega
  | none, some j => simp only [edge] at h; omega
  | none, none => rfl

/-- The words of the first ends. -/
theorem v42 (e : Fin 6144) : val_main_v42 (F := Ideal) (ix1 e) = BitVec.ofNat 32 (src e).val := by
  pointwise [val_main_v42, val_main_v41, val_main_v40, val_main_v39, val_main_v38, src]
  split_ifs <;> rfl

/-- jnp's wrap of an index leaves a small word as it is. -/
theorem wrap (n : Fin 1024) : Scalar.select (IntOp.cmpi .slt (BitVec.ofNat 32 n.val) 0#32) (IntOp.addi (BitVec.ofNat 32 n.val) 1024#32)
    (BitVec.ofNat 32 n.val) = BitVec.ofNat 32 n.val :=
  Routing.wrap_of_lt _ _ (by rw [BitVec.toNat_ofNat]; omega)

/-- … as the sums' scatter reads them, -/
theorem v91 (e : Fin 6144) : val_main_v91 (F := Ideal) (ix2 e 0) = BitVec.ofNat 32 (src e).val := by
  refine Eq.trans ?_ (wrap (src e))
  rw [← v42 e]
  pointwise [val_main_v91, val_main_v90, val_main_v89, val_main_v88, val_main_v87, val_main_v86, val_main_c_13, val_main_c_12]

/-- and as the degrees' scatter reads them. -/
theorem v49 (e : Fin 6144) : val_main_v49 (F := Ideal) (ix2 e 0) = BitVec.ofNat 32 (src e).val := by
  rw [← v42 e]
  pointwise [val_main_v49]

/-- Where head `h`'s feature `f` lies in a vertex's row. -/
def slot (h : Fin 4) (f : Fin 96) : Fin 384 := ⟨f.val * 4 + h.val, by omega⟩

/-- A vertex's row, by head and feature. -/
theorem rows_apply (t : FVec Ideal S8x4x1024x96 .f32) (b : Fin 8) (n : Fin 1024) (h : Fin 4) (f : Fin 96) :
    rows t (ix3 b n (slot h f)) = t (ix4 b h n f) := by
  pointwise [rows, slot]

/-- The graph's result, by head and feature, is the sum at that place of the row. -/
theorem lap_cast (t : FVec Ideal S8x4x1024x96 .f32) (idx : IVec S8x1024x5 32) (b : Fin 8) (n : Fin 1024) (h : Fin 4) (f : Fin 96) :
    lap t idx (ix4 b h n f) = sums t idx (ix3 b n (slot h f)) := by
  pointwise [lap, slot]

/-- A small word read signed. -/
theorem toInt_ofNat (n : Fin 1024) : (BitVec.ofNat 32 n.val).toInt = n.val := by
  have h : (BitVec.ofNat 32 n.val).toNat = n.val := (BitVec.toNat_ofNat _ _).trans (Nat.mod_eq_of_lt (by omega))
  rw [BitVec.toInt_eq_toNat_of_lt (by rw [h]; omega), h]

/-- Update `e` of the degrees lands at its vertex. -/
theorem lands_deg (e : Fin 6144) (n : Fin 1024) :
    scatter_S1024_S6144x1_S6144_n_0_0_1.resultIdx? (ix1 e) (val_main_v49 (F := Ideal)) = some (ix1 n) ↔ src e = n := by
  rw [Routing.resultIdx?_eq_some]
  have hs : scatter_S1024_S6144x1_S6144_n_0_0_1.start (ix1 e) (val_main_v49 (F := Ideal)) (0 : Fin 1) = ((src e).val : Int) := by
    unfold ScatterDims.start
    refine (dif_pos (by decide)).trans ?_
    refine Eq.trans (congrArg (fun i => (val_main_v49 (F := Ideal) i).toInt) (?_ : _ = ix2 e 0)) ((congrArg BitVec.toInt (v49 e)).trans (toInt_ofNat _))
    funext a
    refine Fin.ext ?_
    match a with
    | ⟨0, _⟩ => rfl
    | ⟨1, _⟩ => rfl
  have hw : scatter_S1024_S6144x1_S6144_n_0_0_1.window (ix1 e) (0 : Fin 1) = 0 := by
    unfold ScatterDims.window
    exact dif_neg (by decide)
  constructor
  · intro h
    have h0 := h 0
    rw [hs, hw] at h0
    refine Fin.ext ?_
    have : ((ix1 n : S1024.Idx) 0).val = n.val := rfl
    omega
  · rintro rfl a
    match a with
    | ⟨0, _⟩ =>
      refine (congrArg₂ (fun (a : Int) (b : ℕ) => a + (b : Int)) hs hw).trans ?_
      exact Int.add_zero _

/-- Update `(b', e, q')` of the sums lands at its vertex's row. -/
theorem lands_sum (b b' : Fin 8) (e : Fin 6144) (n : Fin 1024) (q q' : Fin 384) :
    scatter_S8x1024x384_S6144x1_S8x6144x384_02_1_1_1.resultIdx? (ix3 b' e q') (val_main_v91 (F := Ideal)) = some (ix3 b n q)
      ↔ b' = b ∧ src e = n ∧ q' = q := by
  rw [Routing.resultIdx?_eq_some]
  have hs : scatter_S8x1024x384_S6144x1_S8x6144x384_02_1_1_1.start (ix3 b' e q') (val_main_v91 (F := Ideal)) (1 : Fin 3) = ((src e).val : Int) := by
    unfold ScatterDims.start
    refine (dif_pos (by decide)).trans ?_
    refine Eq.trans (congrArg (fun i => (val_main_v91 (F := Ideal) i).toInt) (?_ : _ = ix2 e 0)) ((congrArg BitVec.toInt (v91 e)).trans (toInt_ofNat _))
    funext a
    refine Fin.ext ?_
    match a with
    | ⟨0, _⟩ => rfl
    | ⟨1, _⟩ => rfl
  have hs0 : scatter_S8x1024x384_S6144x1_S8x6144x384_02_1_1_1.start (ix3 b' e q') (val_main_v91 (F := Ideal)) (0 : Fin 3) = 0 := by
    unfold ScatterDims.start
    exact dif_neg (by decide)
  have hs2 : scatter_S8x1024x384_S6144x1_S8x6144x384_02_1_1_1.start (ix3 b' e q') (val_main_v91 (F := Ideal)) (2 : Fin 3) = 0 := by
    unfold ScatterDims.start
    exact dif_neg (by decide)
  have hw1 : scatter_S8x1024x384_S6144x1_S8x6144x384_02_1_1_1.window (ix3 b' e q') (1 : Fin 3) = 0 := by
    unfold ScatterDims.window
    exact dif_neg (by decide)
  have hw0 : scatter_S8x1024x384_S6144x1_S8x6144x384_02_1_1_1.window (ix3 b' e q') (0 : Fin 3) = b'.val := by
    unfold ScatterDims.window
    exact dif_pos (by decide)
  have hw2 : scatter_S8x1024x384_S6144x1_S8x6144x384_02_1_1_1.window (ix3 b' e q') (2 : Fin 3) = q'.val := by
    unfold ScatterDims.window
    exact dif_pos (by decide)
  constructor
  · intro h
    have h0 := h 0
    have h1 := h 1
    have h2 := h 2
    rw [hs0, hw0] at h0
    rw [hs, hw1] at h1
    rw [hs2, hw2] at h2
    have e0 : ((ix3 b n q : S8x1024x384.Idx) 0).val = b.val := rfl
    have e1 : ((ix3 b n q : S8x1024x384.Idx) 1).val = n.val := rfl
    have e2 : ((ix3 b n q : S8x1024x384.Idx) 2).val = q.val := rfl
    exact ⟨Fin.ext (by omega), Fin.ext (by omega), Fin.ext (by omega)⟩
  · rintro ⟨rfl, rfl, rfl⟩ a
    match a with
    | ⟨0, _⟩ => exact (congrArg₂ (fun (a : Int) (b : ℕ) => a + (b : Int)) hs0 hw0).trans (Int.zero_add _)
    | ⟨1, _⟩ => exact (congrArg₂ (fun (a : Int) (b : ℕ) => a + (b : Int)) hs hw1).trans (Int.add_zero _)
    | ⟨2, _⟩ => exact (congrArg₂ (fun (a : Int) (b : ℕ) => a + (b : Int)) hs2 hw2).trans (Int.zero_add _)

/-- The degree of every vertex is six. -/
theorem v50 (n : Fin 1024) : val_main_v50 (F := Ideal) (ix1 n) = ((6 : ℝ) : EReal) := by
  have h1 : ∀ j, val_main_v47 (F := Ideal) j = 1 := by
    intro j; rw [eq_ix1 j]; pointwise [val_main_v47, val_main_cst_2]
  have h0 : val_main_v48 (F := Ideal) (ix1 n) = 0 := by
    pointwise [val_main_v48, val_main_cst_3]
  refine (show val_main_v50 (F := Ideal) (ix1 n) = val_main_v48 (F := Ideal) (ix1 n)
    + ∑ j with scatter_S1024_S6144x1_S6144_n_0_0_1.resultIdx? j (val_main_v49 (F := Ideal)) = some (ix1 n), val_main_v47 (F := Ideal) j from rfl).trans ?_
  rw [h0, zero_add]
  refine (Finset.sum_bij (s := Finset.univ) (f := fun _ : Option (Fin 5) => (1 : EReal)) (fun o _ => ix1 (edge n o)) ?_ ?_ ?_ ?_).symm.trans ?_
  · intro o _
    exact Finset.mem_filter.2 ⟨Finset.mem_univ _, (lands_deg _ _).2 (src_edge n o)⟩
  · intro o _ o' _ h
    exact edge_inj n (congrFun h 0)
  · intro j hj
    have hj := (Finset.mem_filter.1 hj).2
    rw [eq_ix1 j] at hj ⊢
    obtain ⟨o, ho⟩ := edge_src _ _ ((lands_deg _ _).1 hj)
    exact ⟨o, Finset.mem_univ _, congrArg (fun e => ix1 e) ho⟩
  · intro o _
    exact (h1 _).symm
  · rw [Finset.sum_const, Finset.card_univ, Fintype.card_option, Fintype.card_fin, EReal.nsmul_eq_mul]
    norm_num
    rfl

/-- The sums are over a vertex's six edges. -/
theorem sums_apply (t : FVec Ideal S8x4x1024x96 .f32) (idx : IVec S8x1024x5 32) (b : Fin 8) (n : Fin 1024) (q : Fin 384) :
    sums t idx (ix3 b n q) = ∑ o : Option (Fin 5), edges t idx (ix3 b (edge n o) q) := by
  have h0 : val_main_v92 (F := Ideal) (ix3 b n q) = 0 := by
    pointwise [val_main_v92, val_main_v75, val_main_cst_9]
  refine (show sums t idx (ix3 b n q) = val_main_v92 (F := Ideal) (ix3 b n q)
    + ∑ j with scatter_S8x1024x384_S6144x1_S8x6144x384_02_1_1_1.resultIdx? j (val_main_v91 (F := Ideal)) = some (ix3 b n q),
      edges t idx j from rfl).trans ?_
  rw [h0, zero_add]
  refine (Finset.sum_bij (s := Finset.univ) (fun o _ => ix3 b (edge n o) q) ?_ ?_ ?_ ?_).symm
  · intro o _
    exact Finset.mem_filter.2 ⟨Finset.mem_univ _, (lands_sum _ _ _ _ _ _).2 ⟨rfl, src_edge n o, rfl⟩⟩
  · intro o _ o' _ h
    exact edge_inj n (congrFun h 1)
  · intro j hj
    have hj := (Finset.mem_filter.1 hj).2
    rw [eq_ix3 j] at hj ⊢
    obtain ⟨hb, he, hq⟩ := (lands_sum _ _ _ _ _ _).1 hj
    obtain ⟨o, ho⟩ := edge_src _ _ he
    refine ⟨o, Finset.mem_univ _, ?_⟩
    rw [ho, hb, hq]
  · intro o _
    rfl

/-- The second end of an edge. -/
def dst (p : Fin 8 → Fin 1024 → Fin 5 → Fin 1024) (b : Fin 8) (n : Fin 1024) : Option (Fin 5) → Fin 1024
  | some j => p b n j
  | none => n

variable (p : Fin 8 → Fin 1024 → Fin 5 → Fin 1024) (idx : IVec S8x1024x5 32)
  (hp : ∀ b n j, idx (ix3 b n j) = BitVec.ofNat 32 (p b n j).val)

include hp in
/-- An edge of `n` ends at the neighbour it was made for. -/
theorem ends_apply (b : Fin 8) (n : Fin 1024) (o : Option (Fin 5)) :
    ends (F := Ideal) idx (ix2 b (edge n o)) = BitVec.ofNat 32 (dst p b n o).val := by
  match o with
  | some j =>
    refine Eq.trans ?_ (hp b n j)
    pointwise [ends, edge]
    refine (dif_pos (by omega)).trans ?_
    refine congrArg idx (congrArg₂ (fun u v => ix3 b u v) (Fin.ext ?_) (Fin.ext ?_)) <;> simp only <;> omega
  | none =>
    pointwise [ends, edge, dst, val_main_v45, val_main_v44]

include hp in
/-- … and so does its word, wrapped. -/
theorem endWords_apply (b : Fin 8) (n : Fin 1024) (o : Option (Fin 5)) :
    endWords (F := Ideal) idx (ix3 b (edge n o) 0) = BitVec.ofNat 32 (dst p b n o).val := by
  refine Eq.trans ?_ (wrap (dst p b n o))
  rw [← ends_apply p idx hp b n o]
  pointwise [endWords, val_main_v63, val_main_v65, val_main_c_7, val_main_c_8]

/-- The normalised degree: 6 to the power −1/2. -/
def c6 : EReal := ((6 : ℝ) ^ (-(1 / 2) : ℝ) : ℝ)

/-- Every vertex has six edges, so its factor is that. -/
theorem v54 (n : Fin 1024) : val_main_v54 (F := Ideal) (ix1 n) = c6 := by
  have h := v50 n
  have e1 : Ideal.ofBits .f32 0xBF000000#32 = ((-(1 / 2) : ℝ) : EReal) := by
    simp [Ideal.ofBits, Ideal.ieee]
    rw [← EReal.coe_mul, EReal.coe_eq_coe_iff]
    norm_num
  have e2 : Ideal.ofBits .f32 0x3089705F#32 ≤ ((1 / 6 : ℝ) : EReal) := by
    simp [Ideal.ofBits, Ideal.ieee]
    rw [← EReal.coe_mul, EReal.coe_le_coe_iff]
    norm_num
  have e3 : (1 / 6 : ℝ) ≤ (6 : ℝ) ^ (-(1 / 2) : ℝ) := by
    have := Real.rpow_le_rpow_of_exponent_le (x := 6) (by norm_num) (show (-1 : ℝ) ≤ -(1 / 2) by norm_num)
    rwa [Real.rpow_neg_one, ← one_div] at this
  pointwise [val_main_v54, val_main_v53, val_main_cst_5, val_main_v52, val_main_v51, val_main_cst_4]
  rw [h, e1]
  exact max_eq_left (e2.trans (EReal.coe_le_coe_iff.2 e3))

/-- Every edge has one weight, -/
theorem weights_apply (b : Fin 8) (e : Fin 6144) : weights (F := Ideal) idx (ix2 b e) = c6 * 1 * c6 := by
  have h (i : S1024.Idx) : val_main_v54 (F := Ideal) i = c6 := by rw [eq_ix1 i]; exact v54 _
  have h2 (e : Fin 6144) : val_main_v61 (F := Ideal) (ix1 e) = c6 := h _
  have h3 : Host.gather gather_S1024_S8x6144x1_S8x6144_n_0_n_n_0_2_1 (val_main_v54 (F := Ideal)) (endWords (F := Ideal) idx) = fun _ => c6 :=
    funext fun i => h _
  pointwise [weights, h3, val_main_v71, val_main_v70, val_main_v62, val_main_v47, val_main_cst_2, h2]

/-- which is a sixth. -/
theorem c6_sq : c6 * 1 * c6 = ((1 / 6 : ℝ) : EReal) := by
  rw [mul_one, c6, ← EReal.coe_mul, ← Real.rpow_add (by norm_num)]
  norm_num

include hp in
/-- An edge brings the row of the vertex it ends at. -/
theorem gather_apply (y : FVec Ideal S8x1024x384 .f32) (b : Fin 8) (n : Fin 1024) (o : Option (Fin 5)) (q : Fin 384) :
    Host.gather gather_S8x1024x384_S8x6144x1_S8x6144x384_2_1_0_0_1_2_11384 y (endWords (F := Ideal) idx) (ix3 b (edge n o) q)
      = y (ix3 b (dst p b n o) q) := by
  unfold Host.gather
  refine congrArg y (funext fun a => Fin.ext ?_)
  show GatherDims.start _ _ _ a + GatherDims.batchCoord _ _ a + GatherDims.offCoord _ _ a = _
  match a with
  | ⟨0, _⟩ =>
    have h1 : GatherDims.start gather_S8x1024x384_S8x6144x1_S8x6144x384_2_1_0_0_1_2_11384 (ix3 b (edge n o) q) (endWords (F := Ideal) idx) (0 : Fin 3) = 0 := by
      unfold GatherDims.start; exact dif_neg (by decide)
    have h2 : GatherDims.batchCoord gather_S8x1024x384_S8x6144x1_S8x6144x384_2_1_0_0_1_2_11384 (ix3 b (edge n o) q) (0 : Fin 3) = b.val := by
      unfold GatherDims.batchCoord; exact dif_pos (by decide)
    have h3 : GatherDims.offCoord gather_S8x1024x384_S8x6144x1_S8x6144x384_2_1_0_0_1_2_11384 (ix3 b (edge n o) q) (0 : Fin 3) = 0 := by
      unfold GatherDims.offCoord; exact dif_neg (by decide)
    exact (congrArg₂ (· + ·) (congrArg₂ (· + ·) h1 h2) h3).trans (by simp)
  | ⟨1, _⟩ =>
    have h1 : GatherDims.start gather_S8x1024x384_S8x6144x1_S8x6144x384_2_1_0_0_1_2_11384 (ix3 b (edge n o) q) (endWords (F := Ideal) idx) (1 : Fin 3)
        = (dst p b n o).val := by
      unfold GatherDims.start
      refine (dif_pos (by decide)).trans ?_
      refine Eq.trans (congrArg (fun i => min (endWords (F := Ideal) idx i).toInt.toNat 1023) (?_ : _ = ix3 b (edge n o) 0)) ?_
      · funext a
        refine Fin.ext ?_
        match a with
        | ⟨0, _⟩ => rfl
        | ⟨1, _⟩ => rfl
        | ⟨2, _⟩ => rfl
      · rw [endWords_apply p idx hp, toInt_ofNat]
        omega
    have h2 : GatherDims.batchCoord gather_S8x1024x384_S8x6144x1_S8x6144x384_2_1_0_0_1_2_11384 (ix3 b (edge n o) q) (1 : Fin 3) = 0 := by
      unfold GatherDims.batchCoord; exact dif_neg (by decide)
    have h3 : GatherDims.offCoord gather_S8x1024x384_S8x6144x1_S8x6144x384_2_1_0_0_1_2_11384 (ix3 b (edge n o) q) (1 : Fin 3) = 0 := by
      unfold GatherDims.offCoord; exact dif_neg (by decide)
    exact (congrArg₂ (· + ·) (congrArg₂ (· + ·) h1 h2) h3).trans (by simp)
  | ⟨2, _⟩ =>
    have h1 : GatherDims.start gather_S8x1024x384_S8x6144x1_S8x6144x384_2_1_0_0_1_2_11384 (ix3 b (edge n o) q) (endWords (F := Ideal) idx) (2 : Fin 3) = 0 := by
      unfold GatherDims.start; exact dif_neg (by decide)
    have h2 : GatherDims.batchCoord gather_S8x1024x384_S8x6144x1_S8x6144x384_2_1_0_0_1_2_11384 (ix3 b (edge n o) q) (2 : Fin 3) = 0 := by
      unfold GatherDims.batchCoord; exact dif_neg (by decide)
    have h3 : GatherDims.offCoord gather_S8x1024x384_S8x6144x1_S8x6144x384_2_1_0_0_1_2_11384 (ix3 b (edge n o) q) (2 : Fin 3) = q.val := by
      unfold GatherDims.offCoord; exact dif_pos (by decide)
    exact (congrArg₂ (· + ·) (congrArg₂ (· + ·) h1 h2) h3).trans (by simp)

include hp in
/-- THE ADJACENCY: one sixth of each of the five neighbours and of the vertex itself. -/
theorem lap_apply (t : FVec Ideal S8x4x1024x96 .f32) (b : Fin 8) (h : Fin 4) (n : Fin 1024) (f : Fin 96) :
    lap t idx (ix4 b h n f) = ((1 / 6 : ℝ) : EReal) * t (ix4 b h n f) + ∑ j : Fin 5, ((1 / 6 : ℝ) : EReal) * t (ix4 b h (p b n j) f) := by
  have he (o : Option (Fin 5)) : edges t idx (ix3 b (edge n o) (slot h f)) = ((1 / 6 : ℝ) : EReal) * t (ix4 b h (dst p b n o) f) := by
    have hw := weights_apply idx b (edge n o)
    have hg := gather_apply p idx hp (rows t) b n o (slot h f)
    rw [rows_apply] at hg
    rw [c6_sq] at hw
    pointwise [edges, hw, hg]
  rw [lap_cast, sums_apply, Fintype.sum_option]
  simp only [he, dst]

end Cert.ReferenceIdeal.Lap

end
-- ==== Proof.ReferenceValue.lean ====
/- The reference's result is the layer's. -/
module

public import proofs.«01_k».proof.Proof.Ref
public import proofs.«01_k».proof.Proof.Lap
public import proofs.«01_k».proof.Proof.Spec

@[expose] public section

set_option maxRecDepth 16384

noncomputable section

namespace Cert.ReferenceIdeal.Meaning

open Cert.ReferenceIdeal Cert.ReferenceIdeal.Gen Cert.ReferenceIdeal.Read Idealize.ShloMosaic

variable (x0 : FVec Ideal S8x96x32x32 .f32) (x1 x3 x5 : FVec Ideal S384x96 .f32) (x2 x4 x6 : FVec Ideal S384 .f32)
  (x7 : FVec Ideal S96x384 .f32) (x9 x11 : FVec Ideal S96x96 .f32) (x8 x10 x12 x13 x14 x15 x16 : FVec Ideal S96 .f32)

/-- Head and feature of a row. -/
def head (f : Fin 384) : Fin 4 := ⟨f.val / 96, by omega⟩
/-- … and the feature. -/
def feat (f : Fin 384) : Fin 96 := ⟨f.val % 96, by omega⟩

/-- A convolution of 384 channels, by row. -/
theorem conv_row (w : FVec Ideal S384x96 .f32) (c : FVec Ideal S384 .f32) (b : Fin 8) (f : Fin 384) (n : Fin 1024) (k : Fin 96) :
    val_main_v6 (F := Ideal) x0 w c (ix4 b (head f) n k) = Spec.row w c x0 b n (Spec.mate f k) := by
  have e : (⟨(head f).val * 96 + k.val, by have := (head f).isLt; omega⟩ : Fin 384) = Spec.mate f k :=
    Fin.ext (show f.val / 96 * 96 + k.val = 96 * (f.val / 96) + k.val by omega)
  rw [Ref.v6]
  simp only [e]
  rfl

/-- A row is the one its head and its feature say. -/
theorem mate_feat (f : Fin 384) : Spec.mate f (feat f) = f := Fin.ext (show 96 * (f.val / 96) + f.val % 96 = f.val by omega)

/-- … each head a unit vector. -/
theorem unit_row (w : FVec Ideal S384x96 .f32) (c : FVec Ideal S384 .f32) (b : Fin 8) (f : Fin 384) (n : Fin 1024) :
    val_main_v25 (F := Ideal) x0 w c (ix4 b (head f) n (feat f)) = Spec.unit (Spec.row w c x0 b n) f := by
  rw [Ref.v25]
  simp only [conv_row, mate_feat]
  rfl

variable (D : Spec.Data) (h : Spec.Holds x0 x1 x3 x5 x2 x4 x6 x7 x9 x11 x8 x10 x12 x13 x14 x15 x16 D)
  (near : ∀ b n j, val_main_indices (F := Ideal) x0 (ix3 b n j) = BitVec.ofNat 32 (D.near b n j).val)

include near in
/-- An array of real numbers through the adjacency. -/
theorem lap (a : FVec Ideal S8x4x1024x96 .f32) (t : Fin 8 → Fin 384 → Fin 1024 → ℝ)
    (ha : ∀ b f n, a (ix4 b (head f) n (feat f)) = (t b f n : EReal)) (b : Fin 8) (f : Fin 384) (n : Fin 1024) :
    Lap.lap a (val_main_indices (F := Ideal) x0) (ix4 b (head f) n (feat f)) = (1 / 6 * D.lap t b f n : ℝ) := by
  rw [Lap.lap_apply D.near _ near]
  simp only [ha, ← EReal.coe_mul, ← Spec.coe_sum, ← EReal.coe_add]
  refine congrArg _ ?_
  rw [Spec.Data.lap, mul_add, Finset.mul_sum]

include h near in
/-- The reference's key-value products are the layer's, -/
theorem kv (b : Fin 8) (f : Fin 384) :
    val_main_v154 (F := Ideal) x0 x1 x2 x5 x6 (ix3 b (head f) (feat f)) = (D.kv b f : EReal) := by
  rw [Ref.v154, Lap.v95, Lap.v153]
  simp only [lap x0 D near _ D.k (fun b f n => (unit_row x0 x1 x2 b f n).trans (h.k b f n)),
    lap x0 D near (val_main_v20 (F := Ideal) x0 x5 x6) D.v (fun b f n =>
      ((conv_row x0 x5 x6 b f n (feat f)).trans (congrArg _ (mate_feat f))).trans (h.v b f n)),
    ← EReal.coe_mul, ← Spec.coe_sum]
  refine congrArg _ ?_
  rw [Spec.Data.kv, Finset.sum_div]
  exact Finset.sum_congr rfl fun n _ => by ring

include h near in
/-- so is the attention's output, -/
theorem att (b : Fin 8) (f : Fin 384) (n : Fin 1024) :
    val_main_v159 (F := Ideal) x0 x1 x2 x3 x4 x5 x6 (ix4 b f ⟨n.val / 32, by omega⟩ ⟨n.val % 32, by omega⟩) = (D.att b f n : EReal) := by
  rw [Ref.v159]
  change val_main_v25 (F := Ideal) x0 x3 x4 (ix4 b (head f) n (feat f)) * val_main_v154 (F := Ideal) x0 x1 x2 x5 x6 (ix3 b (head f) (feat f)) = _
  rw [kv x0 x1 x3 x5 x2 x4 x6 x7 x9 x11 x8 x10 x12 x13 x14 x15 x16 D h near, unit_row, h.q, ← EReal.coe_mul]
  rfl

include h near in
/-- and the projection. -/
theorem proj (b : Fin 8) (o : Fin 96) (n : Fin 1024) :
    val_main_v164 (F := Ideal) x0 x1 x2 x3 x4 x5 x6 x7 x8 (Ref.grid b o n) = (D.proj o b n : EReal) := by
  unfold Ref.grid
  rw [Ref.v164]
  simp only [att x0 x1 x3 x5 x2 x4 x6 x7 x9 x11 x8 x10 x12 x13 x14 x15 x16 D h near, h.wp, h.bp, ← EReal.coe_mul, ← Spec.coe_sum,
    ← EReal.coe_add]
  rfl

/-- A convolution of 96 channels of real numbers. -/
theorem conv (w : FVec Ideal S96x96 .f32) (c : FVec Ideal S96 .f32) (y : FVec Ideal S8x96x32x32 .f32) (w' : Fin 96 → Fin 96 → ℝ)
    (c' : Fin 96 → ℝ) (y' : Fin 96 → Fin 8 → Fin 1024 → ℝ) (hw : ∀ o k, w (ix2 o k) = (w' o k : EReal))
    (hc : ∀ o, c (ix1 o) = (c' o : EReal)) (hy : ∀ o b n, y (Ref.grid b o n) = (y' o b n : EReal)) (o : Fin 96) (b : Fin 8) (n : Fin 1024) :
    Ref.conv w c y (Ref.grid b o n) = ((∑ k : Fin 96, w' o k * y' k b n) + c' o : ℝ) := by
  unfold Ref.grid at hy ⊢
  rw [Ref.conv_apply]
  simp only [hw, hc, hy, ← EReal.coe_mul, ← Spec.coe_sum, ← EReal.coe_add]

section Channel
variable (Z : FVec Ideal S8x96x32x32 .f32) (o : Fin 96) (z : Fin 8 → Fin 1024 → ℝ) (hz : ∀ b n, Z (Ref.grid b o n) = (z b n : EReal))

include hz in
/-- The mean of a channel is the layer's. -/
theorem mean : Ref.mean Z (ix4 0 o 0 0) = (Spec.mean z : EReal) := by
  rw [Ref.mean_apply, Ref.total_apply, Spec.size_coe, Ideal.div_coe (by norm_num)]
  simp only [hz]
  rw [← Spec.coe_sum, ← EReal.coe_mul]
  exact congrArg _ (div_eq_mul_one_div _ _).symm

include hz in
/-- The difference from the mean. -/
theorem centred (b : Fin 8) (n : Fin 1024) : Ref.centred Z (Ref.grid b o n) = (z b n - Spec.mean z : ℝ) := by
  have e := hz b n
  unfold Ref.grid at e ⊢
  rw [Ref.centred_apply, mean Z o z hz, e, EReal.coe_sub]

include hz in
/-- The variance is the layer's. -/
theorem variance : Ref.variance Z (ix4 0 o 0 0) = (Spec.var z : EReal) := by
  rw [Ref.variance_apply, Ref.total_apply, Spec.size_coe, Ideal.div_coe (by norm_num)]
  have e (p : Fin 8 × Fin 1024) : mulf (Ref.centred Z) (Ref.centred Z) (Ref.grid p.1 o p.2)
      = ((z p.1 p.2 - Spec.mean z) * (z p.1 p.2 - Spec.mean z) : ℝ) :=
    (congrArg₂ (· * ·) (centred Z o z hz p.1 p.2) (centred Z o z hz p.1 p.2)).trans (EReal.coe_mul _ _).symm
  simp only [e]
  rw [← Spec.coe_sum, ← EReal.coe_mul]
  exact congrArg _ (div_eq_mul_one_div _ _).symm

include hz in
/-- The normalisation is the layer's, cut at zero. -/
theorem norm (g beta : FVec Ideal S96 .f32) (r : ℝ) (hg : g (ix1 o) = (r : EReal)) (b : Fin 8) (n : Fin 1024) :
    Ref.norm Z g beta (Ref.grid b o n) = max ((Spec.scaled z r b n : EReal) + beta (ix1 o)) 0 := by
  have hs := Spec.spread_pos z
  have e := centred Z o z hz b n
  unfold Ref.grid at e ⊢
  rw [Ref.norm_apply, e, variance Z o z hz, Spec.eps_coe, ← EReal.coe_add, Ideal.sqrt_coe, if_neg (not_lt.2 hs.le),
    Ideal.div_coe (Real.sqrt_pos.2 hs).ne', hg, ← EReal.coe_mul, ← EReal.coe_mul]
  refine congrArg (fun u : ℝ => max ((u : EReal) + beta (ix1 o)) 0) ?_
  unfold Spec.scaled
  ring

end Channel

include h near in
/-- THE REFERENCE'S RESULT at an index. -/
theorem result (b : Fin 8) (o : Fin 96) (n : Fin 1024) :
    val_main_v213 (F := Ideal) x0 x1 x2 x3 x4 x5 x6 x7 x8 x9 x10 x11 x12 x13 x14 x15 x16 (ix3 b o n) = D.result b o n := by
  have h1 : ∀ o b n, val_main_v169 (F := Ideal) x0 x1 x2 x3 x4 x5 x6 x7 x8 x9 x10 (Ref.grid b o n) = (D.z1 o b n : EReal) := fun o b n =>
    (congrFun (Ref.v169 x0 x1 x3 x5 x2 x4 x6 x7 x8 x10 x9) _).trans (conv x9 x10 _ D.w1 D.b1 D.proj h.w1 h.b1
      (fun o b n => proj x0 x1 x3 x5 x2 x4 x6 x7 x9 x11 x8 x10 x12 x13 x14 x15 x16 D h near b o n) o b n)
  have h2 : ∀ o b n, val_main_v188 (F := Ideal) x0 x1 x2 x3 x4 x5 x6 x7 x8 x9 x10 x13 x14 (Ref.grid b o n) = (D.y1 o b n : EReal) := by
    intro o b n
    refine (congrFun (Ref.v188 x0 x1 x3 x5 x2 x4 x6 x7 x8 x10 x13 x14 x9) _).trans ?_
    rw [norm _ o (D.z1 o) (h1 o) x13 x14 (D.g1 o) (h.g1 o) b n, h.beta1, ← EReal.coe_add, ← EReal.coe_zero, ← Spec.coe_max]
    rfl
  have h3 : ∀ o b n, val_main_v193 (F := Ideal) x0 x1 x2 x3 x4 x5 x6 x7 x8 x9 x10 x11 x12 x13 x14 (Ref.grid b o n)
      = (D.z2 o b n : EReal) := fun o b n =>
    (congrFun (Ref.v193 x0 x1 x3 x5 x2 x4 x6 x7 x8 x10 x12 x13 x14 x9 x11) _).trans (conv x11 x12 _ D.w2 D.b2 D.y1 h.w2 h.b2 h2 o b n)
  rw [Ref.v213]
  change val_main_v212 (F := Ideal) x0 x1 x2 x3 x4 x5 x6 x7 x8 x9 x10 x11 x12 x13 x14 x15 x16 (Ref.grid b o n) = _
  refine (congrFun (Ref.v212 x0 x1 x3 x5 x2 x4 x6 x7 x8 x10 x12 x13 x14 x15 x16 x9 x11) _).trans ?_
  rw [norm _ o (D.z2 o) (h3 o) x15 x16 (D.g2 o) (h.g2 o) b n, h.beta2]
  rfl

end Cert.ReferenceIdeal.Meaning

end
-- ==== Proof.Sort.lean ====
/- What `top_k` along the last axis of a rank-3 array of extended reals returns: the values and the positions of the
   greatest elements, through one ordering of each row. -/
module

public import Idealize.ShloMosaic.PureOps
public import Idealize.ShloMosaic.PureOps.Ideal.Laws
public import Idealize.ShloMosaic.Lib.SortFacts
public import Idealize.ShloMosaic.Lib.ValueIdxCore
public import proofs.«01_k».proof.Proof.Top

@[expose] public section

noncomputable section

namespace Cert.Sort

open Idealize.ShloMosaic Idealize.ShloMosaic.ValueIdx

variable {n : ℕ}

/-- `a` is put before `b` when `b < a`. -/
def before (r : Fin n → EReal) (k k' : Fin n) : Bool :=
  (FloatOps.cmpfTotal (F := Ideal) (φ := .f32) .gt (r k) (r k') == 1#1)

/-- An element goes before a smaller one. -/
theorem before_iff (r : Fin n → EReal) (k k' : Fin n) : before r k k' = true ↔ r k' < r k := by
  unfold before
  rw [Ideal.cmpfTotal_def]
  show (Ideal.cmp .ogt (r k) (r k') == 1#1) = true ↔ _
  unfold Ideal.cmp
  by_cases h : r k' < r k <;> simp [h]

/-- The positions of a row, the greatest element's first. -/
def order (r : Fin n → EReal) : Fin n → Fin n := sortedFrom (before r)

/-- No position comes twice in the order, -/
theorem order_injective (r : Fin n → EReal) : Function.Injective (order r) := sortedFrom_injective _
/-- and every one comes. -/
theorem order_surjective (r : Fin n → EReal) : Function.Surjective (order r) := sortedFrom_surjective _

/-- A later position's element is not greater. -/
theorem order_anti (r : Fin n → EReal) {i j : Fin n} (h : i < j) : r (order r j) ≤ r (order r i) := by
  have key := sortedFrom_noInversion (before r) (before r) (fun a b hab => ?_) (fun a b hab => hab)
    (fun a b c hab hbc => ?_) i j h
  · by_contra hc
    have := (before_iff r (order r j) (order r i)).mpr (not_le.mp hc)
    exact absurd this (by unfold order; rw [key]; decide)
  · have h1 := (before_iff r a b).mp hab
    by_contra hc
    exact absurd ((before_iff r b a).mp (by simpa using hc)) (not_lt.mpr h1.le)
  · have h1 : ¬ r b < r a := fun hh => by have := (before_iff r a b).mpr hh; simp [hab] at this
    have h2 : ¬ r c < r b := fun hh => by have := (before_iff r b c).mpr hh; simp [hbc] at this
    by_contra hc
    exact absurd ((before_iff r a c).mp (by simpa using hc)) (not_lt.mpr ((not_lt.mp h1).trans (not_lt.mp h2)))

/-- The first six positions, when their six elements strictly descend. -/
theorem six (r : Fin 1024 → EReal)
    (h : ∀ j : Fin 5, r (order r (Fin.castLE (by decide) j.succ)) < r (order r (Fin.castLE (by decide) j.castSucc))) :
    Top.Six r fun j : Fin 6 => order r (Fin.castLE (by decide) j) where
  desc := h
  rest m hm := by
    obtain ⟨k, rfl⟩ := order_surjective r m
    have hk : 5 ≤ k.val := by
      by_contra hc
      exact hm ⟨k.val, by omega⟩ (congrArg (order r) (Fin.ext rfl))
    rcases Nat.lt_or_ge 5 k.val with h5 | h5
    · exact order_anti r (Fin.lt_def.mpr h5)
    · have : k = Fin.castLE (by decide) (5 : Fin 6) := Fin.ext (le_antisymm h5 hk)
      rw [this]

/-- The row of a rank-3 array at `(b, m)`. -/
def row {a b c : ℕ} (x : Shape.Idx ⟨3, ![a, b, c]⟩ → EReal) (i : Fin a) (j : Fin b) : Fin c → EReal :=
  fun k => x (ix3 i j k)

/-- An index moved along its last axis. -/
theorem along_two {a b c : ℕ} (j : Shape.Idx ⟨3, ![a, b, c]⟩) (k : Fin c) :
    j.along (2 : Fin 3) k = ix3 (j 0) (j 1) k := by
  funext d
  unfold Shape.Idx.along
  match d with
  | ⟨0, _⟩ => rfl
  | ⟨1, _⟩ => rfl
  | ⟨2, _⟩ => rfl

section topK
variable {a b c k : ℕ} (x : Shape.Idx ⟨3, ![a, b, c]⟩ → EReal)
  (h : Shape.Slices ⟨3, ![a, b, c]⟩ (fun _ => 0) ⟨3, ![a, b, k]⟩)

/-- A slice from the start is no longer than what it is cut from. -/
theorem fits (h : Shape.Slices ⟨3, ![a, b, c]⟩ (fun _ => 0) ⟨3, ![a, b, k]⟩) : k ≤ c := by
  have := h.2 (2 : Fin 3)
  simpa using this

/-- Two arrays sorted along the last axis by the first. -/
theorem sort2_apply {β : Type} (y : Shape.Idx ⟨3, ![a, b, c]⟩ → β) (i : Fin a) (j : Fin b) (q : Fin c) :
    (Host.sort2 ⟨3, ![a, b, c]⟩ 2 (fun l r => FloatOps.cmpfTotal (F := Ideal) (φ := .f32) .gt l.1 r.1) x y).1 (ix3 i j q)
      = x (ix3 i j (order (row x i j) q)) ∧
    (Host.sort2 ⟨3, ![a, b, c]⟩ 2 (fun l r => FloatOps.cmpfTotal (F := Ideal) (φ := .f32) .gt l.1 r.1) x y).2 (ix3 i j q)
      = y (ix3 i j (order (row x i j) q)) := by
  have e : sortedFrom (fun k k' : Fin c => (FloatOps.cmpfTotal (F := Ideal) (φ := .f32) .gt
      (x ((ix3 i j q : Shape.Idx ⟨3, ![a, b, c]⟩).along (2 : Fin 3) k))
      (x ((ix3 i j q : Shape.Idx ⟨3, ![a, b, c]⟩).along (2 : Fin 3) k')) == 1#1)) = order (row x i j) := by
    refine congrArg sortedFrom (funext₂ fun k k' => ?_)
    rw [along_two, along_two]
    rfl
  unfold Host.sort2
  rw [dif_pos (show 2 < Shape.rank ⟨3, ![a, b, c]⟩ from (by decide : (2 : ℕ) < 3))]
  have e' := (along_two (ix3 i j q : Shape.Idx ⟨3, ![a, b, c]⟩) _).trans (congrArg (fun f : Fin c → Fin c => ix3 i j (f q)) e)
  exact ⟨congrArg x e', congrArg y e'⟩

/-- A slice from the start, by index. -/
theorem slice_ix (i : Fin a) (j : Fin b) (q : Fin k) {β : Type} (y : Shape.Idx ⟨3, ![a, b, c]⟩ → β) :
    extractStridedSlice ⟨3, ![a, b, k]⟩ (fun _ => 0) y h (ix3 i j q) = y (ix3 i j (Fin.castLE (fits h) q)) := by
  unfold extractStridedSlice
  refine congrArg y (funext fun d => Fin.ext ?_)
  match d with
  | ⟨0, _⟩ => exact Nat.zero_add _
  | ⟨1, _⟩ => exact Nat.zero_add _
  | ⟨2, _⟩ => exact Nat.zero_add _

/-- Each index's position on the last axis, as a word. -/
def idx : IVec ⟨3, ![a, b, c]⟩ 32 := fun i =>
  if hd : 2 < Shape.rank ⟨3, ![a, b, c]⟩ then iotaInDim ⟨3, ![a, b, c]⟩ 32 ⟨2, hd⟩ i else 0#32

/-- The elements `top_k` returns. -/
theorem topK_values (i : Fin a) (j : Fin b) (q : Fin k) :
    (Host.topK ⟨3, ![a, b, k]⟩ 2 (FloatOps.cmpfTotal (F := Ideal) (φ := .f32) .gt) x h).1 (ix3 i j q)
      = x (ix3 i j (order (row x i j) (Fin.castLE (fits h) q))) :=
  (slice_ix h i j q (Host.sort2 _ 2 _ x _).1).trans (sort2_apply x (idx (a := a) (b := b) (c := c)) i j _).1

/-- The positions `top_k` returns. -/
theorem topK_indices (i : Fin a) (j : Fin b) (q : Fin k) :
    (Host.topK ⟨3, ![a, b, k]⟩ 2 (FloatOps.cmpfTotal (F := Ideal) (φ := .f32) .gt) x h).2 (ix3 i j q)
      = BitVec.ofNat 32 (order (row x i j) (Fin.castLE (fits h) q)).val :=
  (slice_ix h i j q (Host.sort2 _ 2 _ x _).2).trans (sort2_apply x (idx (a := a) (b := b) (c := c)) i j _).2
end topK

end Cert.Sort

end
-- ==== Proof.Pre.lean ====
/- The precondition read: which arguments hold real numbers, and that the six greatest similarities of each vertex are six
   different numbers. -/
module

public import proofs.«01_k».proof.Defs
public import proofs.«01_k».proof.Proof.Gen.ReferenceIdeal.Read
public import proofs.«01_k».proof.Proof.Sort
public import proofs.«01_k».proof.Proof.Spec

@[expose] public section

set_option maxRecDepth 16384

noncomputable section

namespace Cert.Pre_clear_neighbours

open Idealize.ShloMosaic Idealize.ShloMosaic.ValueIdx

/-- The side conditions the precondition's operations take. -/
theorem facts : Facts where
  shapeCasts_S8x96x32x32_S8x96x1024 := by decide
  reducesTo_S8x96x1024_S8x1024_d1 := by decide
  h_S_ := by decide
  bcast_S8x1024_S8x1x1024_0_2 := by decide
  bcast_S_S8x1x1024 := by decide
  bcast_S8x1x1024_S8x96x1024_0_1_2 := by decide
  sliceFits_S8x1024x1024_S8x1024x6 := by decide
  slices_S8x1024x6_S8x1024x5_0_0_1 := by decide
  slices_S8x1024x6_S8x1024x5_0_0_0 := by decide
  bcast_S_S8x96x32x32 := by decide
  bcast_S_S384x96 := by decide
  bcast_S_S384 := by decide
  bcast_S_S96x384 := by decide
  bcast_S_S96 := by decide
  bcast_S_S96x96 := by decide
  dot_S8x96x1024_S8x96x1024_S8x1024x1024_1_1_2_2_0_0_wf := by decide

/-- A number whose absolute value is less than infinity is real. -/
theorem real_of_abs_lt (a : EReal) (h : Ideal.cmp .olt (max a (-a)) (Ideal.ofBits .f32 0x7F800000#32) = 1#1) :
    ∃ r : ℝ, a = (r : EReal) := by
  have e : Ideal.ofBits .f32 0x7F800000#32 = ⊤ := by simp [Ideal.ofBits, Ideal.ieee]
  rw [e] at h
  have hlt : max a (-a) < ⊤ := by
    by_contra hc
    simp [Ideal.cmp, hc] at h
  induction a using EReal.rec with
  | bot => simp at hlt
  | top => simp at hlt
  | coe r => exact ⟨r, rfl⟩

/-- The test of finiteness, read. -/
theorem real_of_test {s : Shape} (x : FVec Ideal s .f32) (hb : S_.BroadcastsInDim s (![] : Fin 0 → Fin s.rank))
    (h : cmpf .olt (Host.absf x) (broadcastInDim s ![] hb (constant S_ .f32 0x7F800000#32)) = fun _ => 1#1) : Spec.Real' x :=
  fun i => real_of_abs_lt (x i) (congrFun h i)

attribute [local instance] facts

variable (x0 : FVec Ideal S8x96x32x32 .f32) (x1 x3 x5 : FVec Ideal S384x96 .f32) (x2 x4 x6 : FVec Ideal S384 .f32)
  (x7 : FVec Ideal S96x384 .f32) (x8 x10 x12 x13 x14 x15 x16 : FVec Ideal S96 .f32) (x9 x11 : FVec Ideal S96x96 .f32)

/-- The similarities, as the reference computes them. -/
def sims : S8x1024x1024.Idx → EReal := Cert.ReferenceIdeal.Read.val_main_v37 (F := Ideal) x0

/-- The precondition. -/
structure Holds : Prop where
  x : Spec.Real' x0
  wv : Spec.Real' x5
  bv : Spec.Real' x6
  wp : Spec.Real' x7
  bp : Spec.Real' x8
  wg1 : Spec.Real' x9
  bg1 : Spec.Real' x10
  wg2 : Spec.Real' x11
  bg2 : Spec.Real' x12
  g1 : Spec.Real' x13
  beta1 : Spec.Real' x14
  g2 : Spec.Real' x15
  six : ∀ (b : Fin 8) (n : Fin 1024), Top.Six (Sort.row (sims x0) b n)
    fun j : Fin 6 => Sort.order (Sort.row (sims x0) b n) (Fin.castLE (by decide) j)

/-- The first component of the precondition is about the reference's similarities. -/
theorem fn_fst : (fn (F := Ideal) x0 x1 x2 x3 x4 x5 x6 x7 x8 x9 x10 x11 x12 x13 x14 x15 x16).1
    = cmpf .olt
      (extractStridedSlice S8x1024x5 ![0, 0, 1] (Host.topK S8x1024x6 2 (FloatOps.cmpfTotal (F := Ideal) (φ := .f32) .gt) (sims x0)
        Facts.sliceFits_S8x1024x1024_S8x1024x6).1 Facts.slices_S8x1024x6_S8x1024x5_0_0_1)
      (extractStridedSlice S8x1024x5 ![0, 0, 0] (Host.topK S8x1024x6 2 (FloatOps.cmpfTotal (F := Ideal) (φ := .f32) .gt) (sims x0)
        Facts.sliceFits_S8x1024x1024_S8x1024x6).1 Facts.slices_S8x1024x6_S8x1024x5_0_0_0) := rfl

/-- A test of less, read. -/
theorem lt_of_test (a b : EReal) (h : Ideal.cmp .olt a b = 1#1) : a < b := by
  by_contra hc
  simp [Ideal.cmp, hc] at h

/-- The first component, read: the six greatest similarities of each vertex descend. -/
theorem six_of_test (h : (fn (F := Ideal) x0 x1 x2 x3 x4 x5 x6 x7 x8 x9 x10 x11 x12 x13 x14 x15 x16).1 = fun _ => 1#1)
    (b : Fin 8) (n : Fin 1024) : Top.Six (Sort.row (sims x0) b n)
      fun j : Fin 6 => Sort.order (Sort.row (sims x0) b n) (Fin.castLE (by decide) j) := by
  refine Sort.six _ fun j => ?_
  have hj := lt_of_test _ _ (congrFun ((fn_fst x0 x1 x3 x5 x2 x4 x6 x7 x8 x10 x12 x13 x14 x15 x16 x9 x11).symm.trans h) (ValueIdx.ix3 b n j))
  have e1 := Sort.topK_values (sims x0) Facts.sliceFits_S8x1024x1024_S8x1024x6 b n j.succ
  have e0 := Sort.topK_values (sims x0) Facts.sliceFits_S8x1024x1024_S8x1024x6 b n j.castSucc
  refine lt_of_eq_of_lt (e1.symm.trans ?_) (lt_of_lt_of_eq hj (Eq.trans ?_ e0))
  · refine congrArg (Host.topK S8x1024x6 2 (FloatOps.cmpfTotal (F := Ideal) (φ := .f32) .gt) (sims x0) Facts.sliceFits_S8x1024x1024_S8x1024x6).1 ?_
    funext a
    refine Fin.ext ?_
    match a with
    | ⟨0, _⟩ => exact (Nat.zero_add _).symm
    | ⟨1, _⟩ => exact (Nat.zero_add _).symm
    | ⟨2, _⟩ => exact Nat.add_comm _ _
  · refine congrArg (Host.topK S8x1024x6 2 (FloatOps.cmpfTotal (F := Ideal) (φ := .f32) .gt) (sims x0) Facts.sliceFits_S8x1024x1024_S8x1024x6).1 ?_
    funext a
    refine Fin.ext ?_
    match a with
    | ⟨0, _⟩ => exact Nat.zero_add _
    | ⟨1, _⟩ => exact Nat.zero_add _
    | ⟨2, _⟩ => exact Nat.zero_add _

/-- THE PRECONDITION, read. -/
theorem read (h : let P := fn (F := Ideal) x0 x1 x2 x3 x4 x5 x6 x7 x8 x9 x10 x11 x12 x13 x14 x15 x16
    P.1 = (fun _ => 1#1) ∧ P.2.1 = (fun _ => 1#1) ∧ P.2.2.1 = (fun _ => 1#1) ∧ P.2.2.2.1 = (fun _ => 1#1)
      ∧ P.2.2.2.2.1 = (fun _ => 1#1) ∧ P.2.2.2.2.2.1 = (fun _ => 1#1) ∧ P.2.2.2.2.2.2.1 = (fun _ => 1#1)
      ∧ P.2.2.2.2.2.2.2.1 = (fun _ => 1#1) ∧ P.2.2.2.2.2.2.2.2.1 = (fun _ => 1#1) ∧ P.2.2.2.2.2.2.2.2.2.1 = (fun _ => 1#1)
      ∧ P.2.2.2.2.2.2.2.2.2.2.1 = (fun _ => 1#1) ∧ P.2.2.2.2.2.2.2.2.2.2.2.1 = (fun _ => 1#1)
      ∧ P.2.2.2.2.2.2.2.2.2.2.2.2 = (fun _ => 1#1)) :
    Holds x0 x5 x6 x7 x8 x10 x12 x13 x14 x15 x9 x11 := by
  obtain ⟨h0, h1, h2, h3, h4, h5, h6, h7, h8, h9, h10, h11, h12⟩ := h
  exact {
    six := six_of_test x0 x1 x3 x5 x2 x4 x6 x7 x8 x10 x12 x13 x14 x15 x16 x9 x11 h0
    x := real_of_test x0 Facts.bcast_S_S8x96x32x32 h1
    wv := real_of_test x5 Facts.bcast_S_S384x96 h2
    bv := real_of_test x6 Facts.bcast_S_S384 h3
    wp := real_of_test x7 Facts.bcast_S_S96x384 h4
    bp := real_of_test x8 Facts.bcast_S_S96 h5
    wg1 := real_of_test x9 Facts.bcast_S_S96x96 h6
    bg1 := real_of_test x10 Facts.bcast_S_S96 h7
    wg2 := real_of_test x11 Facts.bcast_S_S96x96 h8
    bg2 := real_of_test x12 Facts.bcast_S_S96 h9
    g1 := real_of_test x13 Facts.bcast_S_S96 h10
    beta1 := real_of_test x14 Facts.bcast_S_S96 h11
    g2 := real_of_test x15 Facts.bcast_S_S96 h12 }

end Cert.Pre_clear_neighbours

end
-- ==== Proof.Values.lean ====
/- Under the precondition the kernel's result and the reference's are one array. -/
module

public import proofs.«01_k».proof.Proof.KernelValue
public import proofs.«01_k».proof.Proof.ReferenceValue
public import proofs.«01_k».proof.Proof.Pre
public import Idealize.ShloMosaic.Lib.Pointwise.IndexBridge

@[expose] public section

set_option maxRecDepth 16384

noncomputable section

namespace Cert.Values

open Cert.KernelIdeal Idealize.ShloMosaic

variable (x0 : FVec Ideal S8x96x32x32 .f32) (x1 x3 x5 : FVec Ideal S384x96 .f32) (x2 x4 x6 : FVec Ideal S384 .f32)
  (x7 : FVec Ideal S96x384 .f32) (x9 x11 : FVec Ideal S96x96 .f32) (x8 x10 x12 x13 x14 x15 x16 : FVec Ideal S96 .f32)

/-- Both programs compute the same unit vectors of the channels at a vertex, … -/
theorem units_eq (b : Fin 8) (k : Fin 96) (n : Fin 1024) :
    Body.unitCols (Meaning.xb x0 b) (ix2 k n) = Cert.ReferenceIdeal.Read.val_main_v36 (F := Ideal) x0 (ix3 b k n) := by
  rw [Entries.unitCols, Cert.ReferenceIdeal.Ref.v36]
  simp only [Meaning.xb_apply, Cert.ReferenceIdeal.Ref.v31]

/-- … and so the same similarities: the kernel's column of a vertex is the reference's row of it. -/
theorem sims_eq (b : Fin 8) (n : Fin 1024) :
    (fun m => Body.sim (Meaning.xb x0 b) (ix2 m n)) = Sort.row (Cert.Pre_clear_neighbours.sims x0) b n := by
  funext m
  refine Eq.trans ?_ (Cert.ReferenceIdeal.Ref.v37 x0 b n m).symm
  rw [Entries.sim]
  simp only [units_eq]
  exact Finset.sum_congr rfl fun k _ => mul_comm _ _

/-- The neighbours: the vertices of the five greatest similarities. -/
def near (b : Fin 8) (n : Fin 1024) (j : Fin 5) : Fin 1024 :=
  Sort.order (Sort.row (Cert.Pre_clear_neighbours.sims x0) b n) (Fin.castLE (show 5 ≤ 1024 by decide) j)

/-- The vertices of the six greatest similarities; the first five are the neighbours. -/
def six (b : Fin 8) (n : Fin 1024) (j : Fin 6) : Fin 1024 :=
  Sort.order (Sort.row (Cert.Pre_clear_neighbours.sims x0) b n) (Fin.castLE (show 6 ≤ 1024 by decide) j)

/-- The five nearest are the first five of the six greatest. -/
theorem six_castSucc (b : Fin 8) (n : Fin 1024) (j : Fin 5) : six x0 b n j.castSucc = near x0 b n j := by
  unfold six near
  generalize Sort.order (Sort.row (Cert.Pre_clear_neighbours.sims x0) b n) = f
  exact congrArg f (Fin.ext rfl)

/-- The reference's indices are theirs. -/
theorem indices_eq (b : Fin 8) (n : Fin 1024) (j : Fin 5) :
    Cert.ReferenceIdeal.Read.val_main_indices (F := Ideal) x0 (ix3 b n j) = BitVec.ofNat 32 (near x0 b n j).val := by
  unfold Cert.ReferenceIdeal.Read.val_main_indices near Cert.Pre_clear_neighbours.sims
  rw [ix3_eq_valueIdx]
  exact Sort.topK_indices (Cert.ReferenceIdeal.Read.val_main_v37 (F := Ideal) x0) _ b n j

/-- THE VALUES: one array at both programs. -/
theorem values (h : Cert.Pre_clear_neighbours.Holds x0 x5 x6 x7 x8 x10 x12 x13 x14 x15 x9 x11) :
    Cert.ReferenceIdeal.Read.val_main_v213 (F := Ideal) x0 x1 x2 x3 x4 x5 x6 x7 x8 x9 x10 x11 x12 x13 x14 x15 x16
      = Run.result (Array.flat x0) (Array.mats x1 x3 x5) (Array.biases x2 x4 x6) x7 (Array.col x8) x9 (Array.col x10) x11 (Array.col x12)
        (Array.col x13) (Array.col x14) (Array.col x15) (Array.col x16) := by
  obtain ⟨D, hn, hd⟩ : ∃ D : Spec.Data, D.near = near x0 ∧ Spec.Holds x0 x1 x3 x5 x2 x4 x6 x7 x9 x11 x8 x10 x12 x13 x14 x15 x16 D :=
    ⟨Spec.data x0 x1 x3 x5 x2 x4 x6 x7 x9 x11 x8 x10 x12 x13 x14 x15 x16 (near x0), Spec.data_near _ _ _ _ _ _ _ _ _ _ _ _ _ _ _ _ _ _,
      Spec.holds x0 x1 x3 x5 x2 x4 x6 x7 x9 x11 x8 x10 x12 x13 x14 x15 x16 (near x0) h.x h.wv h.bv h.wp h.bp h.wg1 h.bg1 h.wg2
        h.bg2 h.g1 h.beta1 h.g2⟩
  have hr : ∀ b n j, Cert.ReferenceIdeal.Read.val_main_indices (F := Ideal) x0 (ix3 b n j) = BitVec.ofNat 32 (D.near b n j).val := by
    rw [hn]; exact indices_eq x0
  have hk : ∀ b n, ∃ p : Fin 6 → Fin 1024, Top.Six (fun m => Body.sim (Meaning.xb x0 b) (ix2 m n)) p
      ∧ ∀ j : Fin 5, p j.castSucc = D.near b n j := by
    rw [hn]
    intro b n
    rw [sims_eq]
    exact ⟨six x0 b n, h.six b n, six_castSucc x0 b n⟩
  funext i
  rw [eq_ix3 i]
  exact (Cert.ReferenceIdeal.Meaning.result x0 x1 x3 x5 x2 x4 x6 x7 x9 x11 x8 x10 x12 x13 x14 x15 x16 D hd hr _ _ _).trans
    (Meaning.result x0 x1 x3 x5 x2 x4 x6 x7 x9 x11 x8 x10 x12 x13 x14 x15 x16 D hd hk _ _ _).symm

end Cert.Values

end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Values
public import Idealize.ShloMosaic.Lib.Quiescent

@[expose] public section

noncomputable section

namespace Cert.Proof

open Idealize.ShloMosaic Idealize.SL.Sem

open Cert.KernelIdeal in
/-- Under the precondition the reference's value of the kernel's arguments is the kernel's result. -/
theorem value_eq (m : (ℓ : Loc nD τ sig) → Buf (Elt Ideal) ℓ) (c : Dev nD)
    (h : Cert.Pre_KernelIdeal_clear_neighbours (hPre_clear_neighbours := Cert.Pre_clear_neighbours.facts) m) :
    Cert.ReferenceIdeal.Read.val_main_v213 (F := Ideal) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) (m ((c.tc : Thread nD τ).loc main_arg10)) (m ((c.tc : Thread nD τ).loc main_arg11))
      (m ((c.tc : Thread nD τ).loc main_arg12)) (m ((c.tc : Thread nD τ).loc main_arg13)) (m ((c.tc : Thread nD τ).loc main_arg14))
      (m ((c.tc : Thread nD τ).loc main_arg15)) (m ((c.tc : Thread nD τ).loc main_arg16)) = Array.result m c := by
  refine Cert.Values.values _ _ _ _ _ _ _ _ _ _ _ _ _ _ _ _ _ ?_
  exact Cert.Pre_clear_neighbours.read _ _ _ _ _ _ _ _ _ _ _ _ _ _ _ _ _ (h c)

/-- The ideal kernel and the reference return one array. -/
theorem algebraic : Cert.algebraic_KernelIdeal_ReferenceIdeal_pre_clear_neighbours (hKernelIdeal := Cert.KernelIdeal.Gen.facts)
    (hReferenceIdeal := Cert.ReferenceIdeal.Gen.facts) (hPre_clear_neighbours := Cert.Pre_clear_neighbours.facts) := by
  intro m g m' g' hpre hag
  refine ⟨fun c => Cert.KernelIdeal.Array.result m c, ?_, ?_⟩
  · exact (θ_run _ _ _).mono (fun r h c => ⟨(h c).1.trans (Cert.KernelIdeal.Array.array_eq m c), (h c).2⟩)
      (Cert.KernelIdeal.Value.run_blocks m g)
  · refine (θ_run _ _ _).mono (fun r h c => ⟨(h c).1.trans ?_, (h c).2⟩) (Cert.ReferenceIdeal.Value.run m' g')
    obtain ⟨a0, a1, a2, a3, a4, a5, a6, a7, a8, a9, a10, a11, a12, a13, a14, a15, a16⟩ := hag c
    refine (Cert.ReferenceIdeal.Read.val_main_v213_eq (F := Ideal) (StableHlo.launchContents m' c)).trans
      (Eq.trans ?_ (value_eq m c hpre))
    rw [← a0, ← a1, ← a2, ← a3, ← a4, ← a5, ← a6, ← a7, ← a8, ← a9, ← a10, ← a11, ← a12, ← a13, ← a14, ← a15, ← a16]

/-- Every claim of the certificate. -/
theorem claim : Cert.Claim :=
  ⟨Cert.Kernel.Gen.facts, Cert.KernelIdeal.Gen.facts, Cert.ReferenceIdeal.Gen.facts, Cert.Pre_clear_neighbours.facts,
    fun m ρ _ => Cert.Kernel.Gen.frame m ρ, fun m ρ _ => Cert.KernelIdeal.Gen.frame m ρ, fun m ρ _ => Cert.KernelIdeal.Gen.frame m ρ,
    fun m ρ _ => (θ_run _ _ _).mono (fun r h => ⟨fun c => (h c).2, sem_eq_zero_of_no_sems (by decide) _⟩)
      (Cert.ReferenceIdeal.Value.run m ρ),
    fun m ρ _ => (θ_run _ _ _).mono (fun r h => ⟨fun c => (h c).2, sem_eq_zero_of_no_sems (by decide) _⟩)
      (Cert.ReferenceIdeal.Value.run m ρ),
    IdealRules.named_const.statement Cert.KernelIdeal.κ "inv36" .f32 0x3CE38E39#32 ((1 / 36 : ℝ) : EReal) rfl,
    algebraic⟩

end Cert.Proof

end
